-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 2048, 16, 128]⟩ (Layout.meshBlock [2, 2, 2] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 2048, 16, 128]⟩ (Layout.meshBlock [2, 2, 2] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x1024x16x128 : S_.BroadcastsInDim S8x1024x16x128 (![] : Fin 0 → Fin S8x1024x16x128.rank)
  reducesTo_S8x1024x16x128_S_d0_1_2_3 : S8x1024x16x128.ReducesTo [0, 1, 2, 3] S_

variable [Facts]

def fn {F : FTy → Type} [FloatOps F] (main_arg0 : FVec F S8x8x16x128 .f32) (main_arg1 : FVec F S8x1024x16x128 .f32) (main_arg2 : FVec F S8x1024x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x1024x16x128 .f32 := Host.absf main_arg1
  let main_cst_0 : FVec F S_ .f32 := constant S_ .f32 0x7F800000#32
  let main_v5 : FVec F S8x1024x16x128 .f32 := broadcastInDim S8x1024x16x128 ![] bcast_S_S8x1024x16x128 main_cst_0
  let main_v6 : IVec S8x1024x16x128 1 := cmpf .olt main_v4 main_v5
  let main_c_1 : IVec S_ 1 := constantI S_ 1 1#1
  let main_v7 : IVec S_ 1 := (fun x v => Host.reduce IntOp.andi x v reducesTo_S8x1024x16x128_S_d0_1_2_3 h_S_) main_v6 main_c_1
  let main_v8 : IVec S_ 1 := andi main_v3 main_v7
  main_v8
-- ==== Pre_finite_scores_ReferenceIdeal.lean ====
abbrev S8x8x16x128 : Shape := ⟨4, ![8, 8, 16, 128]⟩
abbrev S8x2048x16x128 : Shape := ⟨4, ![8, 2048, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x2048x16x128 : S_.BroadcastsInDim S8x2048x16x128 (![] : Fin 0 → Fin S8x2048x16x128.rank)
  reducesTo_S8x2048x16x128_S_d0_1_2_3 : S8x2048x16x128.ReducesTo [0, 1, 2, 3] S_

variable [Facts]

def fn {F : FTy → Type} [FloatOps F] (main_arg0 : FVec F S8x8x16x128 .f32) (main_arg1 : FVec F S8x2048x16x128 .f32) (main_arg2 : FVec F S8x2048x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x2048x16x128 .f32 := Host.absf main_arg1
  let main_cst_0 : FVec F S_ .f32 := constant S_ .f32 0x7F800000#32
  let main_v5 : FVec F S8x2048x16x128 .f32 := broadcastInDim S8x2048x16x128 ![] bcast_S_S8x2048x16x128 main_cst_0
  let main_v6 : IVec S8x2048x16x128 1 := cmpf .olt main_v4 main_v5
  let main_c_1 : IVec S_ 1 := constantI S_ 1 1#1
  let main_v7 : IVec S_ 1 := (fun x v => Host.reduce IntOp.andi x v reducesTo_S8x2048x16x128_S_d0_1_2_3 h_S_) main_v6 main_c_1
  let main_v8 : IVec S_ 1 := andi main_v3 main_v7
  main_v8
-- ==== Kernel.lean ====
abbrev S8x8x16x128 : Shape := ⟨4, ![8, 8, 16, 128]⟩
abbrev S8x1024x16x128 : Shape := ⟨4, ![8, 1024, 16, 128]⟩
abbrev S2x1024x128 : Shape := ⟨3, ![2, 1024, 128]⟩
abbrev S2x2x8x16 : Shape := ⟨4, ![2, 2, 8, 16]⟩
abbrev S2x8x16x128 : Shape := ⟨4, ![2, 8, 16, 128]⟩
abbrev S2 : Shape := ⟨1, ![2]⟩
abbrev S4 : Shape := ⟨1, ![4]⟩
abbrev S_ : Shape := ⟨0, ![]⟩
abbrev S1 : Shape := ⟨1, ![1]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1x8x1x128 : Shape := ⟨4, ![1, 8, 1, 128]⟩
abbrev S1x8x128 : Shape := ⟨3, ![1, 8, 128]⟩
abbrev S8x128 : Shape := ⟨2, ![8, 128]⟩
abbrev S8x1024 : Shape := ⟨2, ![8, 1024]⟩
abbrev S8 : Shape := ⟨1, ![8]⟩
abbrev S8x1 : Shape := ⟨2, ![8, 1]⟩
abbrev S1x1x8x1 : Shape := ⟨4, ![1, 1, 8, 1]⟩
abbrev S1x2x8x16 : Shape := ⟨4, ![1, 2, 8, 16]⟩
abbrev S2x8x16 : Shape := ⟨3, ![2, 8, 16]⟩
abbrev S2x8x16x1 : Shape := ⟨4, ![2, 8, 16, 1]⟩
abbrev S4x8x16x128 : Shape := ⟨4, ![4, 8, 16, 128]⟩

abbrev nBuf : Space → Nat
  | .hbm => 4
  | .vmem => 7
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x8x16x128, .f32⟩
  | .local _ .vmem, ⟨0, _⟩ => ⟨S8x8x16x128, .f32⟩
  | .local _ .vmem, ⟨1, _⟩ => ⟨S8x8x16x128, .f32⟩
  | .local _ .vmem, ⟨2, _⟩ => ⟨S2x1024x128, .f32⟩
  | .local _ .vmem, ⟨3, _⟩ => ⟨S2x1024x128, .f32⟩
  | .local _ .vmem, ⟨4, _⟩ => ⟨S2x2x8x16, .f32⟩
  | .local _ .vmem, ⟨5, _⟩ => ⟨S2x8x16x128, .f32⟩
  | .local _ .vmem, ⟨6, _⟩ => ⟨S2x2x8x16, .f32⟩
  | _, _ => ⟨S8x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v16 : BitVec 32 := Scalar.muli v2 c4_i32_9
  let v17 : BitVec 32 := Scalar.addi c0_i32 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v18 : BitVec 32 := Scalar.muli v5 c2_i32_10
  let v19 : BitVec 32 := Scalar.addi v17 v18
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let c1_i32_11 : BitVec 32 := 1#32
  let v20 : BitVec 32 := Scalar.muli v12 c1_i32_11
  let v21 : BitVec 32 := Scalar.addi v19 v20
  v21.toNat
def k0_dev2 (d0 : Dev nD) : Nat :=
  let c0_i32_14 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_13 : BitVec 32 := 4#32
  let v22 : BitVec 32 := Scalar.muli v13 c4_i32_13
  let v23 : BitVec 32 := Scalar.addi c0_i32_14 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v24 : BitVec 32 := Scalar.muli v5 c2_i32_15
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v26 : BitVec 32 := Scalar.muli v8 c1_i32_16
  let v27 : BitVec 32 := Scalar.addi v25 v26
  v27.toNat
def k0_dev3 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v28 : BitVec 32 := Scalar.muli v2 c4_i32_18
  let v29 : BitVec 32 := Scalar.addi c0_i32_19 v28
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_20 : BitVec 32 := 2#32
  let v30 : BitVec 32 := Scalar.muli v14 c2_i32_20
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v32 : BitVec 32 := Scalar.muli v8 c1_i32_21
  let v33 : BitVec 32 := Scalar.addi v31 v32
  v33.toNat
def k0_off1 (d0 : Dev nD) (c0_i32_22 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v34 : BitVec 32 := Scalar.addi v11 c0_i32_22
  let c0_i32_29 : BitVec 32 := 0#32
  let c0_i32_24 : BitVec 32 := 0#32
  let c0_i32_30 : BitVec 32 := 0#32
  ![v34.toNat, 0, 0, 0]
def k0_off2 (d0 : Dev nD) (c0_i32_38 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v48 : BitVec 32 := Scalar.addi v11 c0_i32_38
  let c0_i32_45 : BitVec 32 := 0#32
  let c1_i32_40 : BitVec 32 := 1#32
  let c0_i32_46 : BitVec 32 := 0#32
  ![v48.toNat, 0, 1, 0]
def k0_off3 (d0 : Dev nD) (c0_i32_70 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v76 : BitVec 32 := Scalar.addi v11 c0_i32_70
  let v77 : Index := Scalar.indexCast v76
  let c0 : Index := 0#32
  let c0_71 : Index := 0#32
  let c0_72 : Index := 0#32
  ![v77.toNat, 0, 0, 0]
def k0_off4 (d0 : Dev nD) (c0_i32_94 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v114 : BitVec 32 := Scalar.addi v11 c0_i32_94
  let c0_i32_101 : BitVec 32 := 0#32
  let c2_i32_96 : BitVec 32 := 2#32
  let c0_i32_102 : BitVec 32 := 0#32
  ![v114.toNat, 0, 2, 0]
def k0_off5 (d0 : Dev nD) (c0_i32_126 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v142 : BitVec 32 := Scalar.addi v11 c0_i32_126
  let v143 : Index := Scalar.indexCast v142
  let c0_127 : Index := 0#32
  let c1_128 : Index := 1#32
  let c0_129 : Index := 0#32
  ![v143.toNat, 0, 1, 0]
def k0_off6 (d0 : Dev nD) (c0_i32_153 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v180 : BitVec 32 := Scalar.addi v11 c0_i32_153
  let c0_i32_160 : BitVec 32 := 0#32
  let c3_i32_155 : BitVec 32 := 3#32
  let c0_i32_161 : BitVec 32 := 0#32
  ![v180.toNat, 0, 3, 0]
def k0_off7 (d0 : Dev nD) (c0_i32_185 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v208 : BitVec 32 := Scalar.addi v11 c0_i32_185
  let v209 : Index := Scalar.indexCast v208
  let c0_186 : Index := 0#32
  let c2 : Index := 2#32
  let c0_187 : Index := 0#32
  ![v209.toNat, 0, 2, 0]
def k0_off8 (d0 : Dev nD) (c0_i32_211 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v246 : BitVec 32 := Scalar.addi v11 c0_i32_211
  let c0_i32_218 : BitVec 32 := 0#32
  let c4_i32_213 : BitVec 32 := 4#32
  let c0_i32_219 : BitVec 32 := 0#32
  ![v246.toNat, 0, 4, 0]
def k0_off9 (d0 : Dev nD) (c0_i32_243 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v274 : BitVec 32 := Scalar.addi v11 c0_i32_243
  let v275 : Index := Scalar.indexCast v274
  let c0_244 : Index := 0#32
  let c3 : Index := 3#32
  let c0_245 : Index := 0#32
  ![v275.toNat, 0, 3, 0]
def k0_off10 (d0 : Dev nD) (c0_i32_269 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v312 : BitVec 32 := Scalar.addi v11 c0_i32_269
  let c0_i32_275 : BitVec 32 := 0#32
  let c5_i32 : BitVec 32 := 5#32
  let c0_i32_276 : BitVec 32 := 0#32
  ![v312.toNat, 0, 5, 0]
def k0_off11 (d0 : Dev nD) (c0_i32_300 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v340 : BitVec 32 := Scalar.addi v11 c0_i32_300
  let v341 : Index := Scalar.indexCast v340
  let c0_301 : Index := 0#32
  let c4 : Index := 4#32
  let c0_302 : Index := 0#32
  ![v341.toNat, 0, 4, 0]
def k0_off12 (d0 : Dev nD) (c0_i32_326 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v378 : BitVec 32 := Scalar.addi v11 c0_i32_326
  let c0_i32_332 : BitVec 32 := 0#32
  let c6_i32 : BitVec 32 := 6#32
  let c0_i32_333 : BitVec 32 := 0#32
  ![v378.toNat, 0, 6, 0]
def k0_off13 (d0 : Dev nD) (c0_i32_357 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v406 : BitVec 32 := Scalar.addi v11 c0_i32_357
  let v407 : Index := Scalar.indexCast v406
  let c0_358 : Index := 0#32
  let c5 : Index := 5#32
  let c0_359 : Index := 0#32
  ![v407.toNat, 0, 5, 0]
def k0_off14 (d0 : Dev nD) (c0_i32_383 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v444 : BitVec 32 := Scalar.addi v11 c0_i32_383
  let c0_i32_389 : BitVec 32 := 0#32
  let c7_i32 : BitVec 32 := 7#32
  let c0_i32_390 : BitVec 32 := 0#32
  ![v444.toNat, 0, 7, 0]
def k0_off15 (d0 : Dev nD) (c0_i32_414 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v472 : BitVec 32 := Scalar.addi v11 c0_i32_414
  let v473 : Index := Scalar.indexCast v472
  let c0_415 : Index := 0#32
  let c6 : Index := 6#32
  let c0_416 : Index := 0#32
  ![v473.toNat, 0, 6, 0]
def k0_off16 (d0 : Dev nD) (c0_i32_440 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v510 : BitVec 32 := Scalar.addi v11 c0_i32_440
  let c0_i32_446 : BitVec 32 := 0#32
  let c8_i32 : BitVec 32 := 8#32
  let c0_i32_447 : BitVec 32 := 0#32
  ![v510.toNat, 0, 8, 0]
def k0_off17 (d0 : Dev nD) (c0_i32_471 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v538 : BitVec 32 := Scalar.addi v11 c0_i32_471
  let v539 : Index := Scalar.indexCast v538
  let c0_472 : Index := 0#32
  let c7 : Index := 7#32
  let c0_473 : Index := 0#32
  ![v539.toNat, 0, 7, 0]
def k0_off18 (d0 : Dev nD) (c0_i32_497 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v576 : BitVec 32 := Scalar.addi v11 c0_i32_497
  let c0_i32_503 : BitVec 32 := 0#32
  let c9_i32 : BitVec 32 := 9#32
  let c0_i32_504 : BitVec 32 := 0#32
  ![v576.toNat, 0, 9, 0]
def k0_off19 (d0 : Dev nD) (c0_i32_528 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v604 : BitVec 32 := Scalar.addi v11 c0_i32_528
  let v605 : Index := Scalar.indexCast v604
  let c0_529 : Index := 0#32
  let c8 : Index := 8#32
  let c0_530 : Index := 0#32
  ![v605.toNat, 0, 8, 0]
def k0_off20 (d0 : Dev nD) (c0_i32_554 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v642 : BitVec 32 := Scalar.addi v11 c0_i32_554
  let c0_i32_560 : BitVec 32 := 0#32
  let c10_i32 : BitVec 32 := 10#32
  let c0_i32_561 : BitVec 32 := 0#32
  ![v642.toNat, 0, 10, 0]
def k0_off21 (d0 : Dev nD) (c0_i32_585 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v670 : BitVec 32 := Scalar.addi v11 c0_i32_585
  let v671 : Index := Scalar.indexCast v670
  let c0_586 : Index := 0#32
  let c9 : Index := 9#32
  let c0_587 : Index := 0#32
  ![v671.toNat, 0, 9, 0]
def k0_off22 (d0 : Dev nD) (c0_i32_611 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v708 : BitVec 32 := Scalar.addi v11 c0_i32_611
  let c0_i32_617 : BitVec 32 := 0#32
  let c11_i32 : BitVec 32 := 11#32
  let c0_i32_618 : BitVec 32 := 0#32
  ![v708.toNat, 0, 11, 0]
def k0_off23 (d0 : Dev nD) (c0_i32_642 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v736 : BitVec 32 := Scalar.addi v11 c0_i32_642
  let v737 : Index := Scalar.indexCast v736
  let c0_643 : Index := 0#32
  let c10 : Index := 10#32
  let c0_644 : Index := 0#32
  ![v737.toNat, 0, 10, 0]
def k0_off24 (d0 : Dev nD) (c0_i32_668 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v774 : BitVec 32 := Scalar.addi v11 c0_i32_668
  let c0_i32_674 : BitVec 32 := 0#32
  let c12_i32 : BitVec 32 := 12#32
  let c0_i32_675 : BitVec 32 := 0#32
  ![v774.toNat, 0, 12, 0]
def k0_off25 (d0 : Dev nD) (c0_i32_699 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v802 : BitVec 32 := Scalar.addi v11 c0_i32_699
  let v803 : Index := Scalar.indexCast v802
  let c0_700 : Index := 0#32
  let c11 : Index := 11#32
  let c0_701 : Index := 0#32
  ![v803.toNat, 0, 11, 0]
def k0_off26 (d0 : Dev nD) (c0_i32_725 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v840 : BitVec 32 := Scalar.addi v11 c0_i32_725
  let c0_i32_731 : BitVec 32 := 0#32
  let c13_i32 : BitVec 32 := 13#32
  let c0_i32_732 : BitVec 32 := 0#32
  ![v840.toNat, 0, 13, 0]
def k0_off27 (d0 : Dev nD) (c0_i32_756 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v868 : BitVec 32 := Scalar.addi v11 c0_i32_756
  let v869 : Index := Scalar.indexCast v868
  let c0_757 : Index := 0#32
  let c12 : Index := 12#32
  let c0_758 : Index := 0#32
  ![v869.toNat, 0, 12, 0]
def k0_off28 (d0 : Dev nD) (c0_i32_782 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v906 : BitVec 32 := Scalar.addi v11 c0_i32_782
  let c0_i32_788 : BitVec 32 := 0#32
  let c14_i32 : BitVec 32 := 14#32
  let c0_i32_789 : BitVec 32 := 0#32
  ![v906.toNat, 0, 14, 0]
def k0_off29 (d0 : Dev nD) (c0_i32_813 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v934 : BitVec 32 := Scalar.addi v11 c0_i32_813
  let v935 : Index := Scalar.indexCast v934
  let c0_814 : Index := 0#32
  let c13 : Index := 13#32
  let c0_815 : Index := 0#32
  ![v935.toNat, 0, 13, 0]
def k0_off30 (d0 : Dev nD) (c0_i32_839 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v972 : BitVec 32 := Scalar.addi v11 c0_i32_839
  let c0_i32_845 : BitVec 32 := 0#32
  let c15_i32 : BitVec 32 := 15#32
  let c0_i32_846 : BitVec 32 := 0#32
  ![v972.toNat, 0, 15, 0]
def k0_off31 (d0 : Dev nD) (c0_i32_870 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v1000 : BitVec 32 := Scalar.addi v11 c0_i32_870
  let v1001 : Index := Scalar.indexCast v1000
  let c0_871 : Index := 0#32
  let c14 : Index := 14#32
  let c0_872 : Index := 0#32
  ![v1001.toNat, 0, 14, 0]
def k0_off32 (d0 : Dev nD) (c0_i32_928 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v1066 : BitVec 32 := Scalar.addi v11 c0_i32_928
  let v1067 : Index := Scalar.indexCast v1066
  let c0_929 : Index := 0#32
  let c15 : Index := 15#32
  let c0_930 : Index := 0#32
  ![v1067.toNat, 0, 15, 0]
def k0_off33 (d0 : Dev nD) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let c0_i32_1888 : BitVec 32 := 0#32
  let c0_i32_1889 : BitVec 32 := 0#32
  let c0_i32_1890 : BitVec 32 := 0#32
  ![v11.toNat, 0, 0, 0]
def k0_dev4 (d0 : Dev nD) : Nat :=
  let c0_i32_1885 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1884 : BitVec 32 := 4#32
  let v2146 : BitVec 32 := Scalar.muli v2 c4_i32_1884
  let v2147 : BitVec 32 := Scalar.addi c0_i32_1885 v2146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1886 : BitVec 32 := 2#32
  let v2148 : BitVec 32 := Scalar.muli v5 c2_i32_1886
  let v2149 : BitVec 32 := Scalar.addi v2147 v2148
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let c1_i32_1887 : BitVec 32 := 1#32
  let v2150 : BitVec 32 := Scalar.muli v12 c1_i32_1887
  let v2151 : BitVec 32 := Scalar.addi v2149 v2150
  v2151.toNat
def k0_dev5 (d0 : Dev nD) : Nat :=
  let c0_i32_1894 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1893 : BitVec 32 := 4#32
  let v2157 : BitVec 32 := Scalar.muli v2 c4_i32_1893
  let v2158 : BitVec 32 := Scalar.addi c0_i32_1894 v2157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1895 : BitVec 32 := 2#32
  let v2159 : BitVec 32 := Scalar.muli v5 c2_i32_1895
  let v2160 : BitVec 32 := Scalar.addi v2158 v2159
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let c1_i32_1896 : BitVec 32 := 1#32
  let v2161 : BitVec 32 := Scalar.muli v12 c1_i32_1896
  let v2162 : BitVec 32 := Scalar.addi v2160 v2161
  v2162.toNat
def k0_off34 (d0 : Dev nD) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let v11 : BitVec 32 := Scalar.muli c2_i32_4 v10
  let v2205 : Index := Scalar.indexCast v11
  let c0_1937 : Index := 0#32
  let c0_1938 : Index := 0#32
  let c0_1939 : Index := 0#32
  ![v2205.toNat, 0, 0, 0]
def k0_dev6 (d0 : Dev nD) : Nat :=
  let c0_i32_1950 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_1949 : BitVec 32 := 4#32
  let v2221 : BitVec 32 := Scalar.muli v13 c4_i32_1949
  let v2222 : BitVec 32 := Scalar.addi c0_i32_1950 v2221
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1951 : BitVec 32 := 2#32
  let v2223 : BitVec 32 := Scalar.muli v5 c2_i32_1951
  let v2224 : BitVec 32 := Scalar.addi v2222 v2223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1952 : BitVec 32 := 1#32
  let v2225 : BitVec 32 := Scalar.muli v8 c1_i32_1952
  let v2226 : BitVec 32 := Scalar.addi v2224 v2225
  v2226.toNat
def k0_off35 (d0 : Dev nD) : Fin 4 → Nat :=
  let c4_i32_1980 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2247 : BitVec 32 := Scalar.muli c4_i32_1980 v5
  let c0_i32_1987 : BitVec 32 := 0#32
  let c0_i32_1988 : BitVec 32 := 0#32
  let c0_i32_1989 : BitVec 32 := 0#32
  ![v2247.toNat, 0, 0, 0]
def k0_dev7 (d0 : Dev nD) : Nat :=
  let c0_i32_1984 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1983 : BitVec 32 := 4#32
  let v2248 : BitVec 32 := Scalar.muli v2 c4_i32_1983
  let v2249 : BitVec 32 := Scalar.addi c0_i32_1984 v2248
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_1985 : BitVec 32 := 2#32
  let v2250 : BitVec 32 := Scalar.muli v14 c2_i32_1985
  let v2251 : BitVec 32 := Scalar.addi v2249 v2250
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1986 : BitVec 32 := 1#32
  let v2252 : BitVec 32 := Scalar.muli v8 c1_i32_1986
  let v2253 : BitVec 32 := Scalar.addi v2251 v2252
  v2253.toNat
abbrev stage0_0 : Fin 1 → Memref sig .tc .vmem S8x8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S8x8x16x128 : Shape := ⟨4, ![8, 8, 16, 128]⟩
abbrev S8x2048x16x128 : Shape := ⟨4, ![8, 2048, 16, 128]⟩
abbrev S_ : Shape := ⟨0, ![]⟩
abbrev S8x16x8x2048 : Shape := ⟨4, ![8, 16, 8, 2048]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 23
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x2048x16x128, .f32⟩
  | .hbm, ⟨2, _⟩ => ⟨S8x2048x16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x16x8x2048, .f32⟩
  | .hbm, ⟨8, _⟩ => ⟨S8x16x8x2048, .f32⟩
  | .hbm, ⟨9, _⟩ => ⟨S8x16x8x2048, .f32⟩
  | .hbm, ⟨10, _⟩ => ⟨S_, .f32⟩
  | .hbm, ⟨11, _⟩ => ⟨S8x16x8, .f32⟩
  | .hbm, ⟨12, _⟩ => ⟨S8x16x8x1, .f32⟩
  | .hbm, ⟨13, _⟩ => ⟨S8x16x8x2048, .f32⟩
  | .hbm, ⟨14, _⟩ => ⟨S8x16x8x2048, .f32⟩
  | .hbm, ⟨15, _⟩ => ⟨S8x16x8x2048, .f32⟩
  | .hbm, ⟨16, _⟩ => ⟨S_, .f32⟩
  | .hbm, ⟨17, _⟩ => ⟨S8x16x8, .f32⟩
  | .hbm, ⟨18, _⟩ => ⟨S8x16x8x1, .f32⟩
  | .hbm, ⟨19, _⟩ => ⟨S8x16x8x2048, .f32⟩
  | .hbm, ⟨20, _⟩ => ⟨S8x16x8x2048, .f32⟩
  | .hbm, ⟨21, _⟩ => ⟨S8x16x128x8, .f32⟩
  | .hbm, ⟨22, _⟩ => ⟨S8x8x16x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Loop.lean ====
module

public import proofs.«01_k».proof.Proof.Gen.KernelIdeal
public import proofs.«01_k».proof.Proof.Gen.KernelIdeal.Points
public import Idealize.ShloMosaic.Lib.Pipeline.Regions

/-!
# The kernel's body as a loop

The printed body is the straight-line text of thirty-two rounds: round `i` treats batch row `i / 16` of the
device's two rows and head `i % 16`, starts the copies of the next round's keys and values into the other slot,
waits for its own, and stores its block of the output and its columns of the two statistics. Here the round is
written once, with the number as a parameter, and the printed body is shown to be the prologue, the thirty-two
rounds and the epilogue.
-/

@[expose] public section

set_option maxRecDepth 16384

noncomputable section

namespace Cert.KernelIdeal.Own

open Idealize.ShloMosaic Idealize.SL.Sem
open Cert.KernelIdeal.Facts₀ Cert.KernelIdeal.Facts

variable {F : FTy → Type} [FloatOps F] [Named F]

/-! ## Offsets -/

/-- Twice the device's position on the two axes it shares the rows with, as the kernel computes it: the first of its rows. -/
def rowW (d : Dev nD) : BitVec 32 :=
  Scalar.muli 2#32 (Scalar.addi (Scalar.muli 2#32 (Scalar.remsi (Scalar.divsi (Dev.word d) 2#32) 2#32))
    (Scalar.remsi (Scalar.divsi (Dev.word d) 4#32) 2#32))

/-- Row `b` of the device's two. -/
def rowOf (d : Dev nD) (b : Nat) : Nat := (Scalar.addi (rowW d) (BitVec.ofNat 32 b)).toNat

/-- Where round `i` reads and writes: its row, its head. -/
def offR (d : Dev nD) (i : Nat) : Fin 4 → Nat := ![rowOf d (i / 16), 0, i % 16, 0]

/-- Where round `i` keeps its column of statistic `s`. -/
def offS (s i : Nat) : Fin 4 → Nat := ![s, i / 16, 0, i % 16]

/-- Where round `i`'s slot starts. -/
def offB (i : Nat) : Fin 3 → Nat := ![i % 2, 0, 0]

/-- Which semaphore round `i`'s slot has. -/
def offM (i : Nat) : Fin 1 → Nat := ![i % 2]

theorem rowOf_lt (d : Dev nD) (b : Fin 2) : rowOf d b.val < 8 := by
  revert b; revert d; decide +kernel

theorem half_lt {i : Nat} (h : i < 32) : i / 16 < 2 := by omega

theorem offR_inb (d : Dev nD) {i : Nat} (h : i < 32) : ∀ a, offR d i a + S1x8x1x128.size a ≤ S8x8x16x128.size a := by
  have h1 := rowOf_lt d ⟨i / 16, half_lt h⟩
  have h2 : i % 16 < 16 := Nat.mod_lt _ (by decide)
  simp only at h1
  intro a
  match a with
  | ⟨0, _⟩ => show rowOf d (i / 16) + 1 ≤ 8; omega
  | ⟨1, _⟩ => show 0 + 8 ≤ 8; omega
  | ⟨2, _⟩ => show i % 16 + 1 ≤ 16; omega
  | ⟨3, _⟩ => show 0 + 128 ≤ 128; omega

theorem offK_inb (d : Dev nD) {i : Nat} (h : i < 32) : ∀ a, offR d i a + S1x1024x1x128.size a ≤ S8x1024x16x128.size a := by
  have h1 := rowOf_lt d ⟨i / 16, half_lt h⟩
  have h2 : i % 16 < 16 := Nat.mod_lt _ (by decide)
  simp only at h1
  intro a
  match a with
  | ⟨0, _⟩ => show rowOf d (i / 16) + 1 ≤ 8; omega
  | ⟨1, _⟩ => show 0 + 1024 ≤ 1024; omega
  | ⟨2, _⟩ => show i % 16 + 1 ≤ 16; omega
  | ⟨3, _⟩ => show 0 + 128 ≤ 128; omega

theorem offS_inb (s : Fin 2) {i : Nat} (h : i < 32) : ∀ a, offS s.val i a + S1x1x8x1.size a ≤ S2x2x8x16.size a := by
  have h1 := half_lt h
  have h2 : i % 16 < 16 := Nat.mod_lt _ (by decide)
  have h3 := s.isLt
  intro a
  match a with
  | ⟨0, _⟩ => show s.val + 1 ≤ 2; omega
  | ⟨1, _⟩ => show i / 16 + 1 ≤ 2; omega
  | ⟨2, _⟩ => show 0 + 8 ≤ 8; omega
  | ⟨3, _⟩ => show i % 16 + 1 ≤ 16; omega

theorem offB_inb (i : Nat) : ∀ a, offB i a + S1x1024x128.size a ≤ S2x1024x128.size a := by
  have h2 : i % 2 < 2 := Nat.mod_lt _ (by decide)
  intro a
  match a with
  | ⟨0, _⟩ => show i % 2 + 1 ≤ 2; omega
  | ⟨1, _⟩ => show 0 + 1024 ≤ 1024; omega
  | ⟨2, _⟩ => show 0 + 128 ≤ 128; omega

theorem offM_inb (i : Nat) : ∀ a, offM i a + S1.size a ≤ S2.size a := by
  have h2 : i % 2 < 2 := Nat.mod_lt _ (by decide)
  intro a
  match a with
  | ⟨0, _⟩ => show i % 2 + 1 ≤ 2; omega

/-! ## What a round computes -/

/-- The scores of a round: the query rows against the keys, scaled. -/
def scores (q : Vec F S1x8x1x128 .f32) (k : Vec F S1x1024x128 .f32) : FVec F S8x1024 .f32 :=
  mulf (matmul dot_S8x128_S1024x128_S8x1024_1_1_0_0_n_n none
      (truncf .bf16 (shapeCast S8x128 (shapeCast S1x8x128 q shapeCasts_S1x8x1x128_S1x8x128) shapeCasts_S1x8x128_S8x128) bitsLt_bf16_f32)
      (truncf .bf16 (shapeCast S1024x128 k shapeCasts_S1x1024x128_S1024x128) bitsLt_bf16_f32)
      (constant S8x1024 .f32 0x00000000#32))
    (broadcast S8x1024 (Named.named κ "inv_sqrt_d" 0x3DB504F3#32))

/-- The greatest score of each query row. -/
def rowMax (q : Vec F S1x8x1x128 .f32) (k : Vec F S1x1024x128 .f32) : FVec F S8x1 .f32 :=
  shapeCast S8x1 (multiReduction .maximumf [1] S8 (scores q k) 0xFF800000#32 reduces_S8x1024_S8 (.inl rfl) rfl) shapeCasts_S8_S8x1

/-- The weights before they are normalised. -/
def weights (q : Vec F S1x8x1x128 .f32) (k : Vec F S1x1024x128 .f32) : FVec F S8x1024 .f32 :=
  exp (subf (scores q k) (broadcastTo S8x1024 (rowMax q k) broadcasts_S8x1_S8x1024))

/-- The sum of each query row's weights. -/
def rowSum (q : Vec F S1x8x1x128 .f32) (k : Vec F S1x1024x128 .f32) : FVec F S8x1 .f32 :=
  shapeCast S8x1 (multiReduction .add [1] S8 (weights q k) 0x00000000#32 reduces_S8x1024_S8 (.inl rfl) rfl) shapeCasts_S8_S8x1

/-- The weighted values. -/
def mixed (q : Vec F S1x8x1x128 .f32) (k v : Vec F S1x1024x128 .f32) : FVec F S8x128 .f32 :=
  matmul dot_S8x1024_S1024x128_S8x128_1_0_0_1_n_n none (truncf .bf16 (weights q k) bitsLt_bf16_f32)
    (truncf .bf16 (shapeCast S1024x128 v shapeCasts_S1x1024x128_S1024x128) bitsLt_bf16_f32)
    (constant S8x128 .f32 0x00000000#32)

/-- A round's block of the output. -/
def outBlk (q : Vec F S1x8x1x128 .f32) (k v : Vec F S1x1024x128 .f32) : FVec F S1x8x1x128 .f32 :=
  shapeCast S1x8x1x128 (shapeCast S1x8x128 (mixed q k v) shapeCasts_S8x128_S1x8x128) shapeCasts_S1x8x128_S1x8x1x128

/-- A round's column of a statistic. -/
def statCol (x : FVec F S8x1 .f32) : FVec F S1x1x8x1 .f32 :=
  shapeCast S1x1x8x1 (shapeCast S8 x shapeCasts_S8x1_S8) shapeCasts_S8_S1x1x8x1

/-- The two halves put together: both partial outputs rescaled to the common maximum, over the rescaled sum. -/
def combine (m1 l1 m2 l2 : Vec F S1x2x8x16 .f32) (o1 o2 : Vec F S2x8x16x128 .f32) : FVec F S2x8x16x128 .f32 :=
  have a := shapeCast S2x8x16 m1 shapeCasts_S1x2x8x16_S2x8x16
  have b := shapeCast S2x8x16 m2 shapeCasts_S1x2x8x16_S2x8x16
  have la := shapeCast S2x8x16 l1 shapeCasts_S1x2x8x16_S2x8x16
  have lb := shapeCast S2x8x16 l2 shapeCasts_S1x2x8x16_S2x8x16
  have ea := exp (subf a (maximumf a b))
  have eb := exp (subf b (maximumf a b))
  have den := addf (mulf ea la) (mulf eb lb)
  divf (addf
      (mulf (broadcastTo S2x8x16x128 (shapeCast S2x8x16x1 ea shapeCasts_S2x8x16_S2x8x16x1) broadcasts_S2x8x16x1_S2x8x16x128)
        (shapeCast S2x8x16x128 o1 shapeCasts_S2x8x16x128_S2x8x16x128))
      (mulf (broadcastTo S2x8x16x128 (shapeCast S2x8x16x1 eb shapeCasts_S2x8x16_S2x8x16x1) broadcasts_S2x8x16x1_S2x8x16x128) o2))
    (broadcastTo S2x8x16x128 (shapeCast S2x8x16x1 den shapeCasts_S2x8x16_S2x8x16x1) broadcasts_S2x8x16x1_S2x8x16x128)

/-! ## The operations -/

section Ops

variable (arg0 : Memref sig .tc .vmem S8x8x16x128 .f32) (arg1 arg2 : Memref sig .tc .hbm S8x1024x16x128 .f32)
  (arg3 : Memref sig .tc .vmem S8x8x16x128 .f32) (arg4 arg5 : Memref sig .tc .vmem S2x1024x128 .f32)
  (arg6 : Memref sig .tc .vmem S2x2x8x16 .f32) (arg7 : Memref sig .tc .vmem S2x8x16x128 .f32) (arg8 : Memref sig .tc .vmem S2x2x8x16 .f32)
  (harg6 : arg6.IsWhole) (harg7 : arg7.IsWhole) (harg8 : arg8.IsWhole)
  (arg9 arg10 : DmaSems sig S2) (arg11 arg12 : DmaSems sig S4)

/-- Round `i`'s block of the keys or values in the device's array. -/
def srcBlk (a : Memref sig .tc .hbm S8x1024x16x128 .f32) (d : Dev nD) {i : Nat} (h : i < 32) : Memref sig .tc .hbm S1024x128 .f32 :=
  (a.slice (Rect.unit (s := S8x1024x16x128) (offR d i) S1x1024x1x128.size (offK_inb d h)) (fun _ => rfl)).squeeze S1024x128 squeezes_S1x1024x1x128_S1024x128

/-- The slot a round's block is copied into. -/
def dstBlk (a : Memref sig .tc .vmem S2x1024x128 .f32) (i : Nat) : Memref sig .tc .vmem S1024x128 .f32 :=
  (a.slice (Rect.unit (s := S2x1024x128) (offB i) S1x1024x128.size (offB_inb i)) (fun _ => rfl)).squeeze S1024x128 squeezes_S1x1024x128_S1024x128

/-- The slot's semaphore. -/
def slotSem (s : DmaSems sig S2) (i : Nat) : DmaSem sig :=
  ((s.slice (Rect.unit (s := S2) (offM i) S1.size (offM_inb i))).squeeze S_ squeezes_S1_S_).sem

/-- Start the copies of round `i`'s keys and values. -/
def fetch (d : Dev nD) {i : Nat} (h : i < 32) (k : Prog (TpuEff nD τ sig (Elt F) Λ₀ .tc) PUnit) : Prog (TpuEff nD τ sig (Elt F) Λ₀ .tc) PUnit :=
  .op (.enqueueDma (srcBlk arg1 d h) (.here (dstBlk arg4 i)) (.dma (slotSem arg9 i)) ((View.wordExact_bits rfl).reshape _ _) ((View.wordExact_bits rfl).reshape _ _) ⟨Or.inl rfl, trivial⟩) fun _ =>
  .op (.enqueueDma (srcBlk arg2 d h) (.here (dstBlk arg5 i)) (.dma (slotSem arg10 i)) ((View.wordExact_bits rfl).reshape _ _) ((View.wordExact_bits rfl).reshape _ _) ⟨Or.inl rfl, trivial⟩) fun _ => k

/-- Round `i` after the next one's copies have been started. -/
def work (d : Dev nD) {i : Nat} (h : i < 32) (k : Prog (TpuEff nD τ sig (Elt F) Λ₀ .tc) PUnit) : Prog (TpuEff nD τ sig (Elt F) Λ₀ .tc) PUnit :=
  .op (.waitDma2 (slotSem arg9 i) (srcBlk arg1 d h) (dstBlk arg4 i) ((View.wordExact_bits rfl).reshape _ _) ((View.wordExact_bits rfl).reshape _ _)) fun _ =>
  .op (.waitDma2 (slotSem arg10 i) (srcBlk arg2 d h) (dstBlk arg5 i) ((View.wordExact_bits rfl).reshape _ _) ((View.wordExact_bits rfl).reshape _ _)) fun _ =>
  .op (.load arg0 (Rect.unit (s := S8x8x16x128) (offR d i) S1x8x1x128.size (offR_inb d h)).toLoadRect (View.loadsAt_vmem h_S1x8x1x128)) fun (vq : Vec F S1x8x1x128 .f32) =>
  .op (.load arg4 (Rect.unit (s := S2x1024x128) (offB i) S1x1024x128.size (offB_inb i)).toLoadRect (View.loadsAt_vmem h_S1x1024x128)) fun (vk : Vec F S1x1024x128 .f32) =>
  .op (.load arg5 (Rect.unit (s := S2x1024x128) (offB i) S1x1024x128.size (offB_inb i)).toLoadRect (View.loadsAt_vmem h_S1x1024x128)) fun (vv : Vec F S1x1024x128 .f32) =>
  .op (.load arg3 (Rect.unit (s := S8x8x16x128) (offR d i) S1x8x1x128.size (offR_inb d h)).toLoadRect (View.loadsAt_vmem h_S1x8x1x128)) fun (_ : Vec F S1x8x1x128 .f32) =>
  .op (.store arg3 (Rect.unit (s := S8x8x16x128) (offR d i) S1x8x1x128.size (offR_inb d h)) (outBlk vq vk vv) Finset.univ (View.stores_vmem_bits_univ h_S1x8x1x128 rfl) (.inl rfl)) fun _ =>
  .op (.load arg6 (Rect.unit (s := S2x2x8x16) (offS 0 i) S1x1x8x1.size (offS_inb 0 h)).toLoadRect (View.loadsAt_vmem h_S1x1x8x1)) fun (_ : Vec F S1x1x8x1 .f32) =>
  .op (.store arg6 (Rect.unit (s := S2x2x8x16) (offS 0 i) S1x1x8x1.size (offS_inb 0 h)) (statCol (rowMax vq vk)) Finset.univ (View.stores_vmem_bits_univ h_S1x1x8x1 rfl) (.inl rfl)) fun _ =>
  .op (.load arg6 (Rect.unit (s := S2x2x8x16) (offS 1 i) S1x1x8x1.size (offS_inb 1 h)).toLoadRect (View.loadsAt_vmem h_S1x1x8x1)) fun (_ : Vec F S1x1x8x1 .f32) =>
  .op (.store arg6 (Rect.unit (s := S2x2x8x16) (offS 1 i) S1x1x8x1.size (offS_inb 1 h)) (statCol (rowSum vq vk)) Finset.univ (View.stores_vmem_bits_univ h_S1x1x8x1 rfl) (.inl rfl)) fun _ => k

/-- The last `n + 1` rounds. -/
def rounds (d : Dev nD) (k : Prog (TpuEff nD τ sig (Elt F) Λ₀ .tc) PUnit) : (n : Nat) → n < 32 → Prog (TpuEff nD τ sig (Elt F) Λ₀ .tc) PUnit
  | 0, _ => work arg0 arg1 arg2 arg3 arg4 arg5 arg6 arg9 arg10 d (i := 31) (by decide) k
  | n + 1, h => fetch arg1 arg2 arg4 arg5 arg9 arg10 d (i := 31 - n) (by omega)
      (work arg0 arg1 arg2 arg3 arg4 arg5 arg6 arg9 arg10 d (i := 31 - (n + 1)) (by omega) (rounds d k n (Nat.lt_of_succ_lt h)))

/-- One of the semaphores the copies between devices are counted on. -/
abbrev quad (s : DmaSems sig S4) (o : Fin 1 → Nat) (h : ∀ a, o a + S1.size a ≤ S4.size a) : DmaSem sig :=
  ((s.slice (Rect.unit (s := S4) o S1.size h)).squeeze S_ squeezes_S1_S_).sem

/-- The device's own two rows of the output. -/
abbrev rows2 (d : Dev nD) : Memref sig .tc .vmem S2x8x16x128 .f32 :=
  arg3.slice (Rect.unit (s := S8x8x16x128) (k0_off33 d) S2x8x16x128.size (k0_off33_inb d)) (fun _ => rfl)

/-- The four rows the device has after the second exchange. -/
abbrev rows4 (d : Dev nD) : Memref sig .tc .vmem S4x8x16x128 .f32 :=
  arg3.slice (Rect.unit (s := S8x8x16x128) (k0_off35 d) S4x8x16x128.size (k0_off35_inb d)) (fun _ => rfl)

/-- The copies of the partial results to the device with the other half of the keys, and the waits for them. -/
def swapHalves (d : Dev nD) (k : Prog (TpuEff nD τ sig (Elt F) Λ₀ .tc) PUnit) : Prog (TpuEff nD τ sig (Elt F) Λ₀ .tc) PUnit :=
  .op (.enqueueDma (rows2 arg3 d) (.remote (Dev.tc (⟨k0_dev4 d, k0_dev4_lt d⟩ : Dev nD)) arg7 (.dma (quad arg11 ![0] inb_S4_S1_0))) (.dma (quad arg12 ![0] inb_S4_S1_0)) (View.wordExact_bits rfl) harg7.wordExact ⟨⟨rfl, Or.inl rfl⟩, trivial⟩) fun _ =>
  .op (.enqueueDma arg6 (.remote (Dev.tc (⟨k0_dev5 d, k0_dev5_lt d⟩ : Dev nD)) arg8 (.dma (quad arg11 ![1] inb_S4_S1_1))) (.dma (quad arg12 ![1] inb_S4_S1_1)) harg6.wordExact harg8.wordExact ⟨⟨rfl, Or.inl rfl⟩, trivial⟩) fun _ =>
  .op (.waitDma2 (quad arg11 ![0] inb_S4_S1_0) arg7 (rows2 arg3 d) harg7.wordExact (View.wordExact_bits rfl)) fun _ =>
  .op (.waitDma2 (quad arg12 ![0] inb_S4_S1_0) (rows2 arg3 d) arg7 (View.wordExact_bits rfl) harg7.wordExact) fun _ =>
  .op (.waitDma2 (quad arg11 ![1] inb_S4_S1_1) arg8 arg6 harg8.wordExact harg6.wordExact) fun _ =>
  .op (.waitDma2 (quad arg12 ![1] inb_S4_S1_1) arg6 arg8 harg6.wordExact harg8.wordExact) fun _ => k

/-- The two halves put together in place. -/
def merge (d : Dev nD) (k : Prog (TpuEff nD τ sig (Elt F) Λ₀ .tc) PUnit) : Prog (TpuEff nD τ sig (Elt F) Λ₀ .tc) PUnit :=
  .op (.load arg6 (Rect.unit (s := S2x2x8x16) ![0, 0, 0, 0] S1x2x8x16.size inb_S2x2x8x16_S1x2x8x16_0_0_0_0).toLoadRect (View.loadsAt_vmem h_S1x2x8x16)) fun (m1 : Vec F S1x2x8x16 .f32) =>
  .op (.load arg6 (Rect.unit (s := S2x2x8x16) ![1, 0, 0, 0] S1x2x8x16.size inb_S2x2x8x16_S1x2x8x16_1_0_0_0).toLoadRect (View.loadsAt_vmem h_S1x2x8x16)) fun (l1 : Vec F S1x2x8x16 .f32) =>
  .op (.load arg8 (Rect.unit (s := S2x2x8x16) ![0, 0, 0, 0] S1x2x8x16.size inb_S2x2x8x16_S1x2x8x16_0_0_0_0).toLoadRect (View.loadsAt_vmem h_S1x2x8x16)) fun (m2 : Vec F S1x2x8x16 .f32) =>
  .op (.load arg8 (Rect.unit (s := S2x2x8x16) ![1, 0, 0, 0] S1x2x8x16.size inb_S2x2x8x16_S1x2x8x16_1_0_0_0).toLoadRect (View.loadsAt_vmem h_S1x2x8x16)) fun (l2 : Vec F S1x2x8x16 .f32) =>
  .op (.load arg3 (Rect.unit (s := S8x8x16x128) (k0_off34 d) S2x8x16x128.size (k0_off34_inb d)).toLoadRect (View.loadsAt_vmem h_S2x8x16x128)) fun (o1 : Vec F S2x8x16x128 .f32) =>
  .op (.load arg7 (Rect.unit (s := S2x8x16x128) ![0, 0, 0, 0] S2x8x16x128.size inb_S2x8x16x128_S2x8x16x128_0_0_0_0).toLoadRect (View.loadsAt_vmem h_S2x8x16x128)) fun (o2 : Vec F S2x8x16x128 .f32) =>
  .op (.load arg3 (Rect.unit (s := S8x8x16x128) (k0_off34 d) S2x8x16x128.size (k0_off34_inb d)).toLoadRect (View.loadsAt_vmem h_S2x8x16x128)) fun (_ : Vec F S2x8x16x128 .f32) =>
  .op (.store arg3 (Rect.unit (s := S8x8x16x128) (k0_off34 d) S2x8x16x128.size (k0_off34_inb d)) (combine m1 l1 m2 l2 o1 o2) Finset.univ (View.stores_vmem_bits_univ h_S2x8x16x128 rfl) (.inl rfl)) fun _ => k

/-- The two exchanges of finished rows. -/
def gather (d : Dev nD) : Prog (TpuEff nD τ sig (Elt F) Λ₀ .tc) PUnit :=
  .op (.enqueueDma (rows2 arg3 d) (.remote (Dev.tc (⟨k0_dev6 d, k0_dev6_lt d⟩ : Dev nD)) (rows2 arg3 d) (.dma (quad arg11 ![2] inb_S4_S1_2))) (.dma (quad arg12 ![2] inb_S4_S1_2)) (View.wordExact_bits rfl) (View.wordExact_bits rfl) ⟨⟨rfl, Or.inl rfl⟩, trivial⟩) fun _ =>
  .op (.waitDma2 (quad arg11 ![2] inb_S4_S1_2) (rows2 arg3 d) (rows2 arg3 d) (View.wordExact_bits rfl) (View.wordExact_bits rfl)) fun _ =>
  .op (.waitDma2 (quad arg12 ![2] inb_S4_S1_2) (rows2 arg3 d) (rows2 arg3 d) (View.wordExact_bits rfl) (View.wordExact_bits rfl)) fun _ =>
  .op (.enqueueDma (rows4 arg3 d) (.remote (Dev.tc (⟨k0_dev7 d, k0_dev7_lt d⟩ : Dev nD)) (rows4 arg3 d) (.dma (quad arg11 ![3] inb_S4_S1_3))) (.dma (quad arg12 ![3] inb_S4_S1_3)) (View.wordExact_bits rfl) (View.wordExact_bits rfl) ⟨⟨rfl, Or.inl rfl⟩, trivial⟩) fun _ =>
  .op (.waitDma2 (quad arg11 ![3] inb_S4_S1_3) (rows4 arg3 d) (rows4 arg3 d) (View.wordExact_bits rfl) (View.wordExact_bits rfl)) fun _ =>
  .op (.waitDma2 (quad arg12 ![3] inb_S4_S1_3) (rows4 arg3 d) (rows4 arg3 d) (View.wordExact_bits rfl) (View.wordExact_bits rfl)) fun _ =>
  .ret ⟨⟩

/-- Everything after the barrier. -/
def afterBarrier (d : Dev nD) : Prog (TpuEff nD τ sig (Elt F) Λ₀ .tc) PUnit :=
  fetch arg1 arg2 arg4 arg5 arg9 arg10 d (i := 0) (by decide)
    (rounds arg0 arg1 arg2 arg3 arg4 arg5 arg6 arg9 arg10 d
      (swapHalves arg3 arg6 arg7 arg8 harg6 harg7 harg8 arg11 arg12 d
        (merge arg3 arg6 arg7 arg8 d (gather arg3 arg11 arg12 d))) 31 (by decide))

/-- The whole body. -/
def body : Prog (TpuEff nD τ sig (Elt F) Λ₀ .tc) PUnit :=
  .op .deviceId fun (d : Dev nD) =>
  semSignalWord (⟨k0_dev1 d, k0_dev1_lt d⟩ : Dev nD) (SemArray.scalar (sig.barrier 0 rfl) : Sems sig S_).sem 1#32 >>= fun _ =>
  semSignalWord (⟨k0_dev2 d, k0_dev2_lt d⟩ : Dev nD) (SemArray.scalar (sig.barrier 0 rfl) : Sems sig S_).sem 1#32 >>= fun _ =>
  semSignalWord (⟨k0_dev3 d, k0_dev3_lt d⟩ : Dev nD) (SemArray.scalar (sig.barrier 0 rfl) : Sems sig S_).sem 1#32 >>= fun _ =>
  semWaitWord (SemArray.scalar (sig.barrier 0 rfl) : Sems sig S_).sem 3#32 >>= fun _ =>
  afterBarrier arg0 arg1 arg2 arg3 arg4 arg5 arg6 arg7 arg8 harg6 harg7 harg8 arg9 arg10 arg11 arg12 d

end Ops

/-- The printed body is the loop. -/
theorem cc0_body_eq (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S2x1024x128 .f32) (harg4 : arg4.IsWhole) (arg5 : Memref sig .tc .vmem S2x1024x128 .f32) (harg5 : arg5.IsWhole) (arg6 : Memref sig .tc .vmem S2x2x8x16 .f32) (harg6 : arg6.IsWhole) (arg7 : Memref sig .tc .vmem S2x8x16x128 .f32) (harg7 : arg7.IsWhole) (arg8 : Memref sig .tc .vmem S2x2x8x16 .f32) (harg8 : arg8.IsWhole) (arg9 : DmaSems sig S2) (arg10 : DmaSems sig S2) (arg11 : DmaSems sig S4) (arg12 : DmaSems sig S4) :
    cc0_body (F := F) arg0 harg0 arg1 harg1 arg2 harg2 arg3 harg3 arg4 harg4 arg5 harg5 arg6 harg6 arg7 harg7 arg8 harg8 arg9 arg10 arg11 arg12
      = body (F := F) arg0 arg1 arg2 arg3 arg4 arg5 arg6 arg7 arg8 harg6 harg7 harg8 arg9 arg10 arg11 arg12 := by
  chain_rfl

end Cert.KernelIdeal.Own

end
-- ==== Proof.Contents.lean ====
module

public import proofs.«01_k».proof.Proof.Loop
public import Idealize.ShloMosaic.Lib.ValueIdxCore

/-!
# What the buffers hold

The contents of every buffer of the program at the moments the proof speaks of, as functions of the memory at launch:
a device's partial output and statistics over its own half of the keys, and the finished output. With them the
lemmas on the elements each slice of a buffer has and on what a load reads after a copy or a store.
-/

@[expose] public section

set_option maxRecDepth 16384

noncomputable section

namespace Cert.KernelIdeal.Own

open Idealize.ShloMosaic Idealize.SL.Sem
open Idealize.ShloMosaic.TcCoe
open Idealize.ShloMosaic.ValueIdx (ix3 ix4)
open Cert.KernelIdeal.Facts₀ Cert.KernelIdeal.Facts

variable {F : FTy → Type} [FloatOps F] [Named F]

/-! ## Devices -/

/-- The device with the other half of the keys. -/
def zp (c : Dev nD) : Dev nD := ⟨(4 * (c.val / 4) + 2 * ((c.val / 2) % 2) + 1) - (c.val % 2), by have := c.isLt; simp only [nD] at this ⊢; omega⟩
/-- The device across the first axis. -/
def xp (c : Dev nD) : Dev nD := ⟨(2 * ((c.val / 2) % 2) + (c.val % 2) + 4) - 4 * (c.val / 4), by have := c.isLt; simp only [nD] at this ⊢; omega⟩
/-- The device across the second axis. -/
def yp (c : Dev nD) : Dev nD := ⟨(4 * (c.val / 4) + (c.val % 2) + 2) - 2 * ((c.val / 2) % 2), by have := c.isLt; simp only [nD] at this ⊢; omega⟩

theorem zp_zp (c : Dev nD) : zp (zp c) = c := by revert c; decide +kernel
theorem xp_xp (c : Dev nD) : xp (xp c) = c := by revert c; decide +kernel
theorem yp_yp (c : Dev nD) : yp (yp c) = c := by revert c; decide +kernel

theorem dev1_eq (c : Dev nD) : (⟨k0_dev1 c, k0_dev1_lt c⟩ : Dev nD) = zp c := Fin.ext (Gen.k0_dev1_eq c)
theorem dev2_eq (c : Dev nD) : (⟨k0_dev2 c, k0_dev2_lt c⟩ : Dev nD) = xp c := Fin.ext (Gen.k0_dev2_eq c)
theorem dev3_eq (c : Dev nD) : (⟨k0_dev3 c, k0_dev3_lt c⟩ : Dev nD) = yp c := Fin.ext (Gen.k0_dev3_eq c)
theorem dev4_eq (c : Dev nD) : (⟨k0_dev4 c, k0_dev4_lt c⟩ : Dev nD) = zp c := Fin.ext (Gen.k0_dev4_eq c)
theorem dev5_eq (c : Dev nD) : (⟨k0_dev5 c, k0_dev5_lt c⟩ : Dev nD) = zp c := Fin.ext (Gen.k0_dev5_eq c)
theorem dev6_eq (c : Dev nD) : (⟨k0_dev6 c, k0_dev6_lt c⟩ : Dev nD) = xp c := Fin.ext (Gen.k0_dev6_eq c)
theorem dev7_eq (c : Dev nD) : (⟨k0_dev7 c, k0_dev7_lt c⟩ : Dev nD) = yp c := Fin.ext (Gen.k0_dev7_eq c)

/-- A device's first row. -/
def first (c : Dev nD) : Nat := 4 * ((c.val / 2) % 2) + 2 * (c.val / 4)
/-- The first of the four rows a device has after the exchange across the first axis. -/
def first4 (c : Dev nD) : Nat := 4 * ((c.val / 2) % 2)

theorem first_lt (c : Dev nD) : first c + 2 ≤ 8 := by revert c; decide +kernel
theorem rowOf_eq (c : Dev nD) (b : Fin 2) : rowOf c b.val = first c + b.val := by revert b; revert c; decide +kernel
theorem rowOf_half (c : Dev nD) {i : Nat} (h : i < 32) : rowOf c (i / 16) = first c + i / 16 := rowOf_eq c ⟨i / 16, half_lt h⟩

/-- The device that finishes row `r` for the devices with `c`'s half of the keys. -/
def ownerOf (c : Dev nD) (r : Fin 8) : Dev nD :=
  ⟨4 * ((r.val / 2) % 2) + 2 * (r.val / 4) + c.val % 2, by have := r.isLt; simp only [nD]; omega⟩

theorem ownerOf_xp (c : Dev nD) (r : Fin 8) : ownerOf (xp c) r = ownerOf c r := by revert r; revert c; decide +kernel
theorem ownerOf_yp (c : Dev nD) (r : Fin 8) : ownerOf (yp c) r = ownerOf c r := by revert r; revert c; decide +kernel
theorem ownerOf_self (c : Dev nD) (r : Fin 8) (h : first c ≤ r.val) (h' : r.val < first c + 2) : ownerOf c r = c ∧ r.val % 2 = r.val - first c := by
  revert r; revert c; decide +kernel

/-! ## Memrefs -/

abbrev qM : Memref sig .tc .vmem S8x8x16x128 .f32 := Memref.whole cc0_stg0_0
abbrev oM : Memref sig .tc .vmem S8x8x16x128 .f32 := Memref.whole cc0_stg1_0
abbrev kM : Memref sig .tc .vmem S2x1024x128 .f32 := Memref.whole cc0_scratch0
abbrev vM : Memref sig .tc .vmem S2x1024x128 .f32 := Memref.whole cc0_scratch1
abbrev sM : Memref sig .tc .vmem S2x2x8x16 .f32 := Memref.whole cc0_scratch2
abbrev rM : Memref sig .tc .vmem S2x8x16x128 .f32 := Memref.whole cc0_scratch3
abbrev tM : Memref sig .tc .vmem S2x2x8x16 .f32 := Memref.whole cc0_scratch4
abbrev kH : Memref sig .tc .hbm S8x1024x16x128 .f32 := Memref.whole main_arg1
abbrev vH : Memref sig .tc .hbm S8x1024x16x128 .f32 := Memref.whole main_arg2

/-! ## Element sets -/

/-- The elements of a device's own rows. -/
def own (c : Dev nD) : Finset (Shape.Idx S8x8x16x128) := Finset.univ.filter fun i => first c ≤ (i 0).val ∧ (i 0).val < first c + 2
/-- The elements of its four rows. -/
def own4 (c : Dev nD) : Finset (Shape.Idx S8x8x16x128) := Finset.univ.filter fun i => first4 c ≤ (i 0).val ∧ (i 0).val < first4 c + 4

theorem mem_own (c : Dev nD) (i : Shape.Idx S8x8x16x128) : i ∈ own c ↔ first c ≤ (i 0).val ∧ (i 0).val < first c + 2 := by simp [own]
theorem mem_own4 (c : Dev nD) (i : Shape.Idx S8x8x16x128) : i ∈ own4 c ↔ first4 c ≤ (i 0).val ∧ (i 0).val < first4 c + 4 := by simp [own4]

theorem rows2_set (c : Dev nD) : (rows2 oM c).view.set = own c := by
  refine (View.set_slice_whole _ _).trans (Finset.ext fun i => ?_)
  rw [Rect.mem_set_unit, mem_own, Gen.k0_off33_eq]
  constructor
  · intro h; exact h 0
  · intro h a
    match a with
    | ⟨0, _⟩ => exact h
    | ⟨1, _⟩ => exact ⟨Nat.zero_le _, (i 1).isLt.trans_le (Nat.le_add_left _ _)⟩
    | ⟨2, _⟩ => exact ⟨Nat.zero_le _, (i 2).isLt.trans_le (Nat.le_add_left _ _)⟩
    | ⟨3, _⟩ => exact ⟨Nat.zero_le _, (i 3).isLt.trans_le (Nat.le_add_left _ _)⟩

theorem rows4_set (c : Dev nD) : (rows4 oM c).view.set = own4 c := by
  refine (View.set_slice_whole _ _).trans (Finset.ext fun i => ?_)
  rw [Rect.mem_set_unit, mem_own4, Gen.k0_off35_eq]
  constructor
  · intro h; exact h 0
  · intro h a
    match a with
    | ⟨0, _⟩ => exact h
    | ⟨1, _⟩ => exact ⟨Nat.zero_le _, (i 1).isLt.trans_le (Nat.le_add_left _ _)⟩
    | ⟨2, _⟩ => exact ⟨Nat.zero_le _, (i 2).isLt.trans_le (Nat.le_add_left _ _)⟩
    | ⟨3, _⟩ => exact ⟨Nat.zero_le _, (i 3).isLt.trans_le (Nat.le_add_left _ _)⟩

theorem first_cases (c : Dev nD) (n : Fin 8) : (first4 c ≤ n.val ∧ n.val < first4 c + 4 ↔
    (first c ≤ n.val ∧ n.val < first c + 2) ∨ (first (xp c) ≤ n.val ∧ n.val < first (xp c) + 2)) ∧
    ¬ ((first c ≤ n.val ∧ n.val < first c + 2) ∧ (first (xp c) ≤ n.val ∧ n.val < first (xp c) + 2)) := by
  revert n; revert c; decide +kernel
theorem first4_cases (c : Dev nD) (n : Fin 8) : ((first4 c ≤ n.val ∧ n.val < first4 c + 4) ∨ (first4 (yp c) ≤ n.val ∧ n.val < first4 (yp c) + 4)) ∧
    ¬ ((first4 c ≤ n.val ∧ n.val < first4 c + 4) ∧ (first4 (yp c) ≤ n.val ∧ n.val < first4 (yp c) + 4)) := by
  revert n; revert c; decide +kernel

theorem own_union (c : Dev nD) : own c ∪ own (xp c) = own4 c := by
  ext i; rw [Finset.mem_union, mem_own, mem_own, mem_own4]; exact (first_cases c (i 0)).1.symm
theorem own_disjoint (c : Dev nD) : Disjoint (own c) (own (xp c)) :=
  Finset.disjoint_left.mpr fun i h h' => (first_cases c (i 0)).2 ⟨(mem_own c i).mp h, (mem_own (xp c) i).mp h'⟩
theorem own4_union (c : Dev nD) : own4 c ∪ own4 (yp c) = Finset.univ := by
  ext i; rw [Finset.mem_union, mem_own4, mem_own4]; exact ⟨fun _ => Finset.mem_univ _, fun _ => (first4_cases c (i 0)).1⟩
theorem own4_disjoint (c : Dev nD) : Disjoint (own4 c) (own4 (yp c)) :=
  Finset.disjoint_left.mpr fun i h h' => (first4_cases c (i 0)).2 ⟨(mem_own4 c i).mp h, (mem_own4 (yp c) i).mp h'⟩

/-- Slot `s` of a two-slot buffer. -/
def slot (s : Nat) : Finset (Shape.Idx S2x1024x128) := Finset.univ.filter fun i => (i 0).val = s % 2

theorem mem_slot (s : Nat) (i : Shape.Idx S2x1024x128) : i ∈ slot s ↔ (i 0).val = s % 2 := by simp [slot]

theorem rectB_set (i : Nat) : (Rect.unit (s := S2x1024x128) (offB i) S1x1024x128.size (offB_inb i)).set = slot i := by
  ext j
  rw [Rect.mem_set_unit, mem_slot]
  constructor
  · intro h
    have h0 := h 0
    have h1 : i % 2 ≤ (j 0).val ∧ (j 0).val < i % 2 + 1 := h0
    omega
  · intro h a
    match a with
    | ⟨0, _⟩ => show i % 2 ≤ (j 0).val ∧ (j 0).val < i % 2 + 1; omega
    | ⟨1, _⟩ => exact ⟨Nat.zero_le _, (j 1).isLt.trans_le (Nat.le_add_left _ _)⟩
    | ⟨2, _⟩ => exact ⟨Nat.zero_le _, (j 2).isLt.trans_le (Nat.le_add_left _ _)⟩

theorem dstBlk_set_k (i : Nat) : (dstBlk kM i).view.set = slot i :=
  ((View.set_reshape _ _).trans (View.set_slice_whole _ _)).trans (rectB_set i)
theorem dstBlk_set_v (i : Nat) : (dstBlk vM i).view.set = slot i :=
  ((View.set_reshape _ _).trans (View.set_slice_whole _ _)).trans (rectB_set i)

theorem slot_union (i : Nat) : slot i ∪ slot (i + 1) = Finset.univ := by
  ext j
  rw [Finset.mem_union, mem_slot, mem_slot]
  have : (j 0).val < 2 := (j 0).isLt
  exact ⟨fun _ => Finset.mem_univ _, fun _ => by omega⟩
theorem slot_disjoint (i : Nat) : Disjoint (slot i) (slot (i + 1)) :=
  Finset.disjoint_left.mpr fun j h h' => by
    rw [mem_slot] at h h'; omega
theorem slot_congr {i j : Nat} (h : i % 2 = j % 2) : slot i = slot j := by unfold slot; rw [h]

/-! ## Reading back what was written -/

section Generic

variable {sg : RefSig} {κ : Kind} {sp : Space} {s : Shape} {e : EltTy} (v : View sg κ sp s e) {Val : EltTy → Type}

/-- What a copy between equal slices leaves under the slice. -/
theorem write_read_self (fd fs : v.ty.Contents Val) : ∀ i ∈ v.set, v.write Val fd (v.read Val fs) Finset.univ i = fs i := by
  intro i hi
  obtain ⟨x, -, rfl⟩ := Finset.mem_map.mp hi
  rw [View.write_emb_of_mem _ _ (Finset.mem_univ x), View.read_apply, cast_cast, cast_eq]

/-- Reading a slice whole after a write through the same slice reshaped. -/
theorem read_slice_write_reshape (r : Rect s) (s' : Shape) (h : s'.numel = r.shape.numel) (fd : v.ty.Contents Val) (w : s'.Idx → Val e) :
    (v.slice r).read Val (((v.slice r).reshape s' h).write Val fd w Finset.univ) = fun y => w ((Shape.reshapeEquiv h).symm y) := by
  funext y
  have hy : (v.slice r).emb y = ((v.slice r).reshape s' h).emb ((Shape.reshapeEquiv h).symm y) := by
    show _ = (v.slice r).emb (Shape.reshapeEquiv h ((Shape.reshapeEquiv h).symm y))
    rw [Equiv.apply_symm_apply]
  rw [View.read_apply, hy]
  exact (View.read_write_of_mem (v := (v.slice r).reshape s' h) fd w (Finset.mem_univ _))

end Generic

/-! ## Contents -/

variable (m : (ℓ : Loc nD τ sig) → Buf (Elt F) ℓ)

/-- The queries a device holds. -/
def XQ (c : Dev nD) : (cc0_stg0_0 : Ref sig .tc).ty.Contents (Elt F) :=
  (win0_0.blk (0 : Fin 1)).view.read (Elt F) (m ((c : Thread nD τ).loc main_arg0))
/-- The device's keys. -/
def KA (c : Dev nD) : (main_arg1 : Ref sig .tc).ty.Contents (Elt F) := m ((c : Thread nD τ).loc main_arg1)
/-- The device's values. -/
def VA (c : Dev nD) : (main_arg2 : Ref sig .tc).ty.Contents (Elt F) := m ((c : Thread nD τ).loc main_arg2)

/-- Round `i`'s queries, -/
def qBlk (c : Dev nD) (i : Fin 32) : Vec F S1x8x1x128 .f32 :=
  qM.view.readAt (Elt F) (Rect.unit (s := S8x8x16x128) (offR c i) S1x8x1x128.size (offR_inb c i.isLt)).toLoadRect (XQ m c)
/-- keys, -/
def kBlk (c : Dev nD) (i : Fin 32) : Vec F S1x1024x128 .f32 :=
  fun y => (srcBlk kH c i.isLt).view.read (Elt F) (KA m c) ((Shape.reshapeEquiv squeezes_S1x1024x128_S1024x128.numel_eq).symm y)
/-- and values. -/
def vBlk (c : Dev nD) (i : Fin 32) : Vec F S1x1024x128 .f32 :=
  fun y => (srcBlk vH c i.isLt).view.read (Elt F) (VA m c) ((Shape.reshapeEquiv squeezes_S1x1024x128_S1024x128.numel_eq).symm y)

/-- The number of the round that computes row `b`, head `h`. -/
def rnd (b : Nat) (h : Fin 16) : Fin 32 := ⟨(16 * b + h.val) % 32, Nat.mod_lt _ (by decide)⟩

/-- A device's own rows of the output over its half of the keys. -/
def PO (c : Dev nD) : (cc0_stg1_0 : Ref sig .tc).ty.Contents (Elt F) := fun i : Shape.Idx S8x8x16x128 =>
  outBlk (qBlk m c (rnd ((i 0).val - first c) (i 2))) (kBlk m c (rnd ((i 0).val - first c) (i 2))) (vBlk m c (rnd ((i 0).val - first c) (i 2)))
    (ix4 0 (i 1) 0 (i 3))

/-- Its statistics: the greatest scores, then the sums of the weights. -/
def ML (c : Dev nD) : (cc0_scratch2 : Ref sig .tc).ty.Contents (Elt F) := fun i : Shape.Idx S2x2x8x16 =>
  if (i 0).val = 0 then statCol (rowMax (qBlk m c (rnd (i 1).val (i 3))) (kBlk m c (rnd (i 1).val (i 3)))) (ix4 0 0 (i 2) 0)
  else statCol (rowSum (qBlk m c (rnd (i 1).val (i 3))) (kBlk m c (rnd (i 1).val (i 3)))) (ix4 0 0 (i 2) 0)

/-- One of the two statistics. -/
def stat (f : (cc0_scratch2 : Ref sig .tc).ty.Contents (Elt F)) (s : Fin 2) : Vec F S1x2x8x16 .f32 :=
  fun y => (f : Shape.Idx S2x2x8x16 → Elt F .f32) (ix4 s (y 1) (y 2) (y 3))

/-- A device's own rows as a copy reads them. -/
def ORow (c : Dev nD) (f : (cc0_stg1_0 : Ref sig .tc).ty.Contents (Elt F)) : Vec F S2x8x16x128 .f32 := (rows2 oM c).view.read (Elt F) f

/-- A device's finished rows. -/
def comb (c : Dev nD) : FVec F S2x8x16x128 .f32 :=
  combine (stat (ML m c) 0) (stat (ML m c) 1) (stat (ML m (zp c)) 0) (stat (ML m (zp c)) 1) (ORow c (PO m c)) (ORow (zp c) (PO m (zp c)))

/-- The finished output. -/
def FIN (c : Dev nD) : (cc0_stg1_0 : Ref sig .tc).ty.Contents (Elt F) := fun i : Shape.Idx S8x8x16x128 =>
  comb m (ownerOf c (i 0)) (ix4 ⟨(i 0).val % 2, Nat.mod_lt _ (by decide)⟩ (i 1) (i 2) (i 3))

theorem FIN_xp (c : Dev nD) : FIN m (xp c) = FIN m c := by
  funext (i : Shape.Idx S8x8x16x128); exact congrArg (fun d => comb m d _) (ownerOf_xp c (i 0))
theorem FIN_yp (c : Dev nD) : FIN m (yp c) = FIN m c := by
  funext (i : Shape.Idx S8x8x16x128); exact congrArg (fun d => comb m d _) (ownerOf_yp c (i 0))

/-! ## Loads after copies -/

theorem read_slot_k (c : Dev nD) (i : Fin 32) (fd : (cc0_scratch0 : Ref sig .tc).ty.Contents (Elt F)) :
    kM.view.readAt (Elt F) (Rect.unit (s := S2x1024x128) (offB i) S1x1024x128.size (offB_inb i)).toLoadRect
      ((dstBlk kM i).view.write (Elt F) fd ((srcBlk kH c i.isLt).view.read (Elt F) (KA m c)) Finset.univ) = kBlk m c i :=
  read_slice_write_reshape (View.whole cc0_scratch0) _ _ _ fd _

theorem read_slot_v (c : Dev nD) (i : Fin 32) (fd : (cc0_scratch1 : Ref sig .tc).ty.Contents (Elt F)) :
    vM.view.readAt (Elt F) (Rect.unit (s := S2x1024x128) (offB i) S1x1024x128.size (offB_inb i)).toLoadRect
      ((dstBlk vM i).view.write (Elt F) fd ((srcBlk vH c i.isLt).view.read (Elt F) (VA m c)) Finset.univ) = vBlk m c i :=
  read_slice_write_reshape (View.whole cc0_scratch1) _ _ _ fd _

/-! ## Stores of a round -/

/-- The output's own rows are computed up to round `n`. -/
def AgreeO (c : Dev nD) (n : Nat) (f : (cc0_stg1_0 : Ref sig .tc).ty.Contents (Elt F)) : Prop :=
  ∀ i : Shape.Idx S8x8x16x128, i ∈ own c → 16 * ((i 0).val - first c) + (i 2).val < n → f i = PO m c i
/-- The statistics are computed up to round `n`. -/
def AgreeM (c : Dev nD) (n : Nat) (f : (cc0_scratch2 : Ref sig .tc).ty.Contents (Elt F)) : Prop :=
  ∀ i : Shape.Idx S2x2x8x16, 16 * (i 1).val + (i 3).val < n → f i = ML m c i

theorem agreeO_zero (c : Dev nD) (f) : AgreeO m c 0 f := fun _ _ h => absurd h (Nat.not_lt_zero _)
theorem agreeM_zero (c : Dev nD) (f) : AgreeM m c 0 f := fun _ h => absurd h (Nat.not_lt_zero _)

theorem agreeO_all (c : Dev nD) (f) (h : AgreeO m c 32 f) : ∀ i ∈ own c, f i = PO m c i := fun i hi =>
  h i hi (by have h1 := (mem_own c i).mp hi; have h2 : (i 2).val < 16 := (i 2).isLt; omega)
theorem agreeM_all (c : Dev nD) (f) (h : AgreeM m c 32 f) : f = ML m c := funext fun (i : Shape.Idx S2x2x8x16) =>
  h i (by have h1 : (i 1).val < 2 := (i 1).isLt; have h2 : (i 3).val < 16 := (i 3).isLt; omega)

theorem rectR_sub (c : Dev nD) {i : Nat} (h : i < 32) :
    (Rect.unit (s := S8x8x16x128) (offR c i) S1x8x1x128.size (offR_inb c h)).set ⊆ own c := by
  intro j hj
  have h0 : rowOf c (i / 16) ≤ (j 0).val ∧ (j 0).val < rowOf c (i / 16) + 1 := (Rect.mem_set_unit.mp hj) 0
  rw [rowOf_half c h] at h0
  rw [mem_own]; have := half_lt h; omega

theorem rnd_eq {i : Fin 32} {b : Nat} {h : Fin 16} (e : 16 * b + h.val = i.val) : rnd b h = i := by
  apply Fin.ext; show (16 * b + h.val) % 32 = i.val; rw [e]; exact Nat.mod_eq_of_lt i.isLt

theorem agreeO_store (c : Dev nD) (i : Fin 32) (f : (cc0_stg1_0 : Ref sig .tc).ty.Contents (Elt F)) (hf : AgreeO m c i f) :
    AgreeO m c (i + 1) ((oM.access (Rect.unit (s := S8x8x16x128) (offR c i) S1x8x1x128.size (offR_inb c i.isLt))).write (Elt F) f
      (outBlk (qBlk m c i) (kBlk m c i) (vBlk m c i)) Finset.univ) := by
  intro j hj hn
  have hr := rowOf_half c i.isLt
  have hown := (mem_own c j).mp hj
  have h2 : (j 2).val < 16 := (j 2).isLt
  by_cases he : 16 * ((j 0).val - first c) + (j 2).val = i.val
  · have hje : j = (oM.access (Rect.unit (s := S8x8x16x128) (offR c i) S1x8x1x128.size (offR_inb c i.isLt))).emb (ix4 0 (j 1) 0 (j 3)) := by
      funext a; apply Fin.ext
      match a with
      | ⟨0, _⟩ => show (j 0).val = rowOf c (i / 16) + 1 * 0; omega
      | ⟨1, _⟩ => show (j 1).val = 0 + 1 * (j 1).val; omega
      | ⟨2, _⟩ => show (j 2).val = i % 16 + 1 * 0; omega
      | ⟨3, _⟩ => show (j 3).val = 0 + 1 * (j 3).val; omega
    have hp : PO m c j = outBlk (qBlk m c i) (kBlk m c i) (vBlk m c i) (ix4 0 (j 1) 0 (j 3)) := by
      unfold PO; rw [rnd_eq he]
    rw [hp]
    conv_lhs => rw [hje]
    exact View.write_emb_of_mem _ _ (Finset.mem_univ _)
  · rw [View.write_of_not_mem]
    · exact hf j hj (by omega)
    · intro hm
      have hm' : j ∈ (Rect.unit (s := S8x8x16x128) (offR c i) S1x8x1x128.size (offR_inb c i.isLt)).set := by
        rw [← View.set_slice_whole (sig := sig) cc0_stg1_0]; exact hm
      have h0 : rowOf c (i / 16) ≤ (j 0).val ∧ (j 0).val < rowOf c (i / 16) + 1 := (Rect.mem_set_unit.mp hm') 0
      have h2' : i % 16 ≤ (j 2).val ∧ (j 2).val < i % 16 + 1 := (Rect.mem_set_unit.mp hm') 2
      omega

/-- One column stored: the statistic `s` of round `i`. -/
theorem store_stat (s : Fin 2) (i : Fin 32) (f : (cc0_scratch2 : Ref sig .tc).ty.Contents (Elt F)) (w : FVec F S1x1x8x1 .f32) (j : Shape.Idx S2x2x8x16) :
    (sM.access (Rect.unit (s := S2x2x8x16) (offS s i) S1x1x8x1.size (offS_inb s i.isLt))).write (Elt F) f w Finset.univ j
      = if (j 0).val = s.val ∧ 16 * (j 1).val + (j 3).val = i.val then w (ix4 0 0 (j 2) 0) else f j := by
  have h3 : (j 3).val < 16 := (j 3).isLt
  have h1 : (j 1).val < 2 := (j 1).isLt
  split
  · rename_i he
    have hje : j = (sM.access (Rect.unit (s := S2x2x8x16) (offS s i) S1x1x8x1.size (offS_inb s i.isLt))).emb (ix4 0 0 (j 2) 0) := by
      funext a; apply Fin.ext
      match a with
      | ⟨0, _⟩ => show (j 0).val = s.val + 1 * 0; omega
      | ⟨1, _⟩ => show (j 1).val = i / 16 + 1 * 0; omega
      | ⟨2, _⟩ => show (j 2).val = 0 + 1 * (j 2).val; omega
      | ⟨3, _⟩ => show (j 3).val = i % 16 + 1 * 0; omega
    conv_lhs => rw [hje]
    exact View.write_emb_of_mem _ _ (Finset.mem_univ _)
  · rename_i he
    rw [View.write_of_not_mem]
    intro hm
    have hm' : j ∈ (Rect.unit (s := S2x2x8x16) (offS s i) S1x1x8x1.size (offS_inb s i.isLt)).set := by
      rw [← View.set_slice_whole (sig := sig) cc0_scratch2]; exact hm
    have h0 : s.val ≤ (j 0).val ∧ (j 0).val < s.val + 1 := (Rect.mem_set_unit.mp hm') 0
    have h1' : i / 16 ≤ (j 1).val ∧ (j 1).val < i / 16 + 1 := (Rect.mem_set_unit.mp hm') 1
    have h3' : i % 16 ≤ (j 3).val ∧ (j 3).val < i % 16 + 1 := (Rect.mem_set_unit.mp hm') 3
    exact he ⟨by omega, by omega⟩

theorem agreeM_store (c : Dev nD) (i : Fin 32) (f : (cc0_scratch2 : Ref sig .tc).ty.Contents (Elt F)) (hf : AgreeM m c i f) :
    AgreeM m c (i + 1)
      ((sM.access (Rect.unit (s := S2x2x8x16) (offS 1 i) S1x1x8x1.size (offS_inb 1 i.isLt))).write (Elt F)
        ((sM.access (Rect.unit (s := S2x2x8x16) (offS 0 i) S1x1x8x1.size (offS_inb 0 i.isLt))).write (Elt F) f
          (statCol (rowMax (qBlk m c i) (kBlk m c i))) Finset.univ)
        (statCol (rowSum (qBlk m c i) (kBlk m c i))) Finset.univ) := by
  intro j hn
  refine (store_stat 1 i _ _ j).trans ?_
  refine (congrArg (fun z => if (j 0).val = (1 : Fin 2).val ∧ 16 * (j 1).val + (j 3).val = i.val then
    statCol (rowSum (qBlk m c i) (kBlk m c i)) (ix4 0 0 (j 2) 0) else z) (store_stat 0 i _ _ j)).trans ?_
  have h0 : (j 0).val < 2 := (j 0).isLt
  by_cases he : 16 * (j 1).val + (j 3).val = i.val
  · unfold ML
    rw [rnd_eq he]
    by_cases hz : (j 0).val = 0
    · rw [if_neg (fun h => by have := h.1; simp only [Fin.val_one] at this; omega), if_pos ⟨hz, he⟩, if_pos hz]
    · rw [if_pos ⟨by simp only [Fin.val_one]; omega, he⟩, if_neg hz]
  · rw [if_neg (fun h => he h.2), if_neg (fun h => he h.2)]
    exact hf j (by omega)

/-! ## The merge -/

theorem read_stat0 (f : (cc0_scratch2 : Ref sig .tc).ty.Contents (Elt F)) :
    sM.view.readAt (Elt F) (Rect.unit (s := S2x2x8x16) ![0, 0, 0, 0] S1x2x8x16.size inb_S2x2x8x16_S1x2x8x16_0_0_0_0).toLoadRect f = stat f 0 := by
  funext y
  refine congrArg f (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 0 + 1 * (y 2).val = (y 2).val; omega
  | ⟨3, _⟩ => show 0 + 1 * (y 3).val = (y 3).val; omega

theorem read_stat1 (f : (cc0_scratch2 : Ref sig .tc).ty.Contents (Elt F)) :
    sM.view.readAt (Elt F) (Rect.unit (s := S2x2x8x16) ![1, 0, 0, 0] S1x2x8x16.size inb_S2x2x8x16_S1x2x8x16_1_0_0_0).toLoadRect f = stat f 1 := by
  funext y
  refine congrArg f (funext fun a => Fin.ext ?_)
  match a with
  | ⟨0, _⟩ => show 1 + 1 * (y 0).val = 1; have : (y 0).val < 1 := (y 0).isLt; omega
  | ⟨1, _⟩ => show 0 + 1 * (y 1).val = (y 1).val; omega
  | ⟨2, _⟩ => show 0 + 1 * (y 2).val = (y 2).val; omega
  | ⟨3, _⟩ => show 0 + 1 * (y 3).val = (y 3).val; omega

theorem read_stat0' (f : (cc0_scratch4 : Ref sig .tc).ty.Contents (Elt F)) :
    tM.view.readAt (Elt F) (Rect.unit (s := S2x2x8x16) ![0, 0, 0, 0] S1x2x8x16.size inb_S2x2x8x16_S1x2x8x16_0_0_0_0).toLoadRect f = stat f 0 := read_stat0 f
theorem read_stat1' (f : (cc0_scratch4 : Ref sig .tc).ty.Contents (Elt F)) :
    tM.view.readAt (Elt F) (Rect.unit (s := S2x2x8x16) ![1, 0, 0, 0] S1x2x8x16.size inb_S2x2x8x16_S1x2x8x16_1_0_0_0).toLoadRect f = stat f 1 := read_stat1 f

theorem hz4 : (![0, 0, 0, 0] : Fin 4 → Nat) = fun _ => 0 := funext fun a => by fin_cases a <;> rfl

theorem read_recv (f : (cc0_scratch3 : Ref sig .tc).ty.Contents (Elt F)) :
    rM.view.readAt (Elt F) (Rect.unit (s := S2x8x16x128) ![0, 0, 0, 0] S2x8x16x128.size inb_S2x8x16x128_S2x8x16x128_0_0_0_0).toLoadRect f = f :=
  Memref.readAt_unit_zero (Elt F) cc0_scratch3 hz4 _ f

theorem off34_eq (c : Dev nD) : k0_off34 c = k0_off33 c := (Gen.k0_off34_eq c).trans (Gen.k0_off33_eq c).symm

theorem rect34_eq (c : Dev nD) : Rect.unit (s := S8x8x16x128) (k0_off34 c) S2x8x16x128.size (k0_off34_inb c)
    = Rect.unit (s := S8x8x16x128) (k0_off33 c) S2x8x16x128.size (k0_off33_inb c) := Rect.unit_congr (off34_eq c) _ _

/-- The merge's store leaves the finished rows. -/
theorem store_fin (c : Dev nD) (f : (cc0_stg1_0 : Ref sig .tc).ty.Contents (Elt F)) : ∀ i ∈ own c,
    (oM.access (Rect.unit (s := S8x8x16x128) (k0_off34 c) S2x8x16x128.size (k0_off34_inb c))).write (Elt F) f (comb m c) Finset.univ i = FIN m c i := by
  intro j hj
  have hown := (mem_own c j).mp hj
  obtain ⟨ho, hb⟩ := ownerOf_self c (j 0) hown.1 hown.2
  have hje : j = (oM.access (Rect.unit (s := S8x8x16x128) (k0_off34 c) S2x8x16x128.size (k0_off34_inb c))).emb
      (ix4 ⟨(j 0).val % 2, Nat.mod_lt _ (by decide)⟩ (j 1) (j 2) (j 3)) := by
    have he := Gen.k0_off34_eq c
    funext a; apply Fin.ext
    match a with
    | ⟨0, _⟩ =>
      show (j 0).val = k0_off34 c 0 + 1 * ((j 0).val % 2)
      have : k0_off34 c 0 = first c := congrFun he 0
      omega
    | ⟨1, _⟩ => show (j 1).val = k0_off34 c 1 + 1 * (j 1).val; have : k0_off34 c 1 = 0 := congrFun he 1; omega
    | ⟨2, _⟩ => show (j 2).val = k0_off34 c 2 + 1 * (j 2).val; have : k0_off34 c 2 = 0 := congrFun he 2; omega
    | ⟨3, _⟩ => show (j 3).val = k0_off34 c 3 + 1 * (j 3).val; have : k0_off34 c 3 = 0 := congrFun he 3; omega
  have hp : FIN m c j = comb m c (ix4 ⟨(j 0).val % 2, Nat.mod_lt _ (by decide)⟩ (j 1) (j 2) (j 3)) := by
    unfold FIN; rw [ho]
  rw [hp]
  conv_lhs => rw [hje]
  exact View.write_emb_of_mem _ _ (Finset.mem_univ _)

theorem read_rows (c : Dev nD) (f : (cc0_stg1_0 : Ref sig .tc).ty.Contents (Elt F)) :
    oM.view.readAt (Elt F) (Rect.unit (s := S8x8x16x128) (k0_off34 c) S2x8x16x128.size (k0_off34_inb c)).toLoadRect f = ORow c f := by
  funext y
  refine congrArg f (funext fun a => Fin.ext ?_)
  show k0_off34 c a + 1 * (y a).val = k0_off33 c a + 1 * (y a).val
  exact congrArg (· + 1 * (y a).val) (congrFun (off34_eq c) a)

end Cert.KernelIdeal.Own

end
-- ==== Proof.Protocol.lean ====
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

/-!
# The protocol between the devices

Which device pays which semaphore, with what, and in which order the waits may happen. A device's barrier cell has
three duties, one for each neighbour, each handing over the buffers that the device's copies to that neighbour land
in. The four receive cells have one duty each, paid by the copy that lands; the four send cells one each, paid by the
device's own copy and handing its source back.
-/

@[expose] public section

set_option maxRecDepth 16384

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F] [Named F]

/-! ## The resource algebra: the staging's rounds, the protocol's rounds, and the counters of the local copies -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ)

/-! ## Semaphores and cells -/

/-- The barrier semaphore. -/
abbrev barS : Sem sig := (SemArray.scalar (sig.barrier 0 rfl) : Sems sig S_).sem
/-- The semaphores the four copies' sources are counted on, -/
def sS : Fin 4 → DmaSem sig := fun
  | 0 => quad cc0_scratch7 ![0] inb_S4_S1_0 | 1 => quad cc0_scratch7 ![1] inb_S4_S1_1
  | 2 => quad cc0_scratch7 ![2] inb_S4_S1_2 | 3 => quad cc0_scratch7 ![3] inb_S4_S1_3
/-- and their landings. -/
def rS : Fin 4 → DmaSem sig := fun
  | 0 => quad cc0_scratch8 ![0] inb_S4_S1_0 | 1 => quad cc0_scratch8 ![1] inb_S4_S1_1
  | 2 => quad cc0_scratch8 ![2] inb_S4_S1_2 | 3 => quad cc0_scratch8 ![3] inb_S4_S1_3
/-- The slots' semaphores. -/
abbrev kS (i : Nat) : DmaSem sig := slotSem cc0_scratch5 i
abbrev vS (i : Nat) : DmaSem sig := slotSem cc0_scratch6 i

abbrev barCell (c : Dev nD) : GSem nD τ sig := ((c : Thread nD τ), .reg barS)
abbrev sendCell (c : Dev nD) (j : Fin 4) : GSem nD τ sig := ((c : Thread nD τ), .dma (sS j))
abbrev recvCell (c : Dev nD) (j : Fin 4) : GSem nD τ sig := ((c : Thread nD τ), .dma (rS j))

/-- Which copy, and which end of it, a semaphore counts. -/
def dec (q : DmaSem sig) : Option (Bool × Fin 4) :=
  match (List.finRange 4).find? (fun j => decide (q = sS j)) with
  | some j => some (false, j)
  | none => ((List.finRange 4).find? (fun j => decide (q = rS j))).map (fun j => (true, j))

theorem dec_s : ∀ j, dec (sS j) = some (false, j) := by decide +kernel
theorem dec_r : ∀ j, dec (rS j) = some (true, j) := by decide +kernel
theorem dec_k (i : Nat) : dec (kS i) = none := by
  have h : ∀ o : Fin 2, dec (((cc0_scratch5.slice (Rect.unit (s := S2) ![o.val] S1.size (by revert o; decide))).squeeze S_ squeezes_S1_S_).sem) = none := by decide +kernel
  exact h ⟨i % 2, Nat.mod_lt _ (by decide)⟩
theorem dec_v (i : Nat) : dec (vS i) = none := by
  have h : ∀ o : Fin 2, dec (((cc0_scratch6.slice (Rect.unit (s := S2) ![o.val] S1.size (by revert o; decide))).squeeze S_ squeezes_S1_S_).sem) = none := by decide +kernel
  exact h ⟨i % 2, Nat.mod_lt _ (by decide)⟩

theorem kS_congr {i j : Nat} (h : i % 2 = j % 2) : kS i = kS j := by
  unfold kS slotSem; rw [SemArray.slice_unit_congr _ (show offM i = offM j by unfold offM; rw [h]) (offM_inb i) (offM_inb j)]
theorem vS_congr {i j : Nat} (h : i % 2 = j % 2) : vS i = vS j := by
  unfold vS slotSem; rw [SemArray.slice_unit_congr _ (show offM i = offM j by unfold offM; rw [h]) (offM_inb i) (offM_inb j)]

/-- The nine cells of a device the protocol is about. -/
def csem : Fin 9 → SemLoc sig := fun
  | 0 => .reg barS | 1 => .dma (sS 0) | 2 => .dma (sS 1) | 3 => .dma (sS 2) | 4 => .dma (sS 3)
  | 5 => .dma (rS 0) | 6 => .dma (rS 1) | 7 => .dma (rS 2) | 8 => .dma (rS 3)
abbrev kcell (ck : Dev nD × Fin 9) : GSem nD τ sig := ((ck.1 : Thread nD τ), csem ck.2)
def ks (j : Fin 4) : Fin 9 := ⟨1 + j.val, by omega⟩
def kr (j : Fin 4) : Fin 9 := ⟨5 + j.val, by omega⟩
theorem kcell_bar (c : Dev nD) : kcell (c, 0) = barCell c := rfl
theorem kcell_s (c : Dev nD) (j : Fin 4) : kcell (c, ks j) = sendCell c j := by revert j; intro j; match j with | 0 => rfl | 1 => rfl | 2 => rfl | 3 => rfl
theorem kcell_r (c : Dev nD) (j : Fin 4) : kcell (c, kr j) = recvCell c j := by revert j; intro j; match j with | 0 => rfl | 1 => rfl | 2 => rfl | 3 => rfl

/-- Whom copy `j` goes to. -/
def peer (c : Dev nD) : Fin 4 → Dev nD := fun | 0 => zp c | 1 => zp c | 2 => xp c | 3 => yp c

/-- What copy `j` counts. -/
def N : Fin 4 → ℕ := fun
  | 0 => rM.view.dmaCredit | 1 => tM.view.dmaCredit | 2 => rM.view.dmaCredit | 3 => (rows4 oM 0).view.dmaCredit
theorem N_pos (j : Fin 4) : 0 < N j :=
  match j with
  | 0 => View.dmaCredit_pos _ (by decide) | 1 => View.dmaCredit_pos _ (by decide)
  | 2 => View.dmaCredit_pos _ (by decide) | 3 => View.dmaCredit_pos _ (by decide)

/-! ## What is handed over -/

abbrev oPts (c : Dev nD) (S : Finset (Idx ((c : Thread nD τ).loc cc0_stg1_0))) (f : Buf (Elt F) ((c : Thread nD τ).loc cc0_stg1_0)) : sProp 𝕄 :=
  ((c : Thread nD τ).loc cc0_stg1_0) ↦[S]{fullShare} f
abbrev sPts (c : Dev nD) (f : Buf (Elt F) ((c : Thread nD τ).loc cc0_scratch2)) : sProp 𝕄 := ((c : Thread nD τ).loc cc0_scratch2) ↦{fullShare} f
abbrev rPts (c : Dev nD) (f : Buf (Elt F) ((c : Thread nD τ).loc cc0_scratch3)) : sProp 𝕄 := ((c : Thread nD τ).loc cc0_scratch3) ↦{fullShare} f
abbrev tPts (c : Dev nD) (f : Buf (Elt F) ((c : Thread nD τ).loc cc0_scratch4)) : sProp 𝕄 := ((c : Thread nD τ).loc cc0_scratch4) ↦{fullShare} f

/-- What a neighbour's signal hands device `c`: where the copies to it land. -/
def barPay (c : Dev nD) : Fin 3 → sProp 𝕄 := fun
  | 0 => iprop((∃ f, rPts (zp c) f) ∗ ∃ f, tPts (zp c) f)
  | 1 => iprop(∃ f, oPts (xp c) (own c) f)
  | 2 => iprop(∃ f, oPts (yp c) (own4 c) f)
/-- The source of copy `j`, given back. -/
def sendPay (c : Dev nD) : Fin 4 → sProp 𝕄 := fun
  | 0 => oPts c (own c) (PO m c)
  | 1 => sPts c (ML m c)
  | 2 => oPts c (own c) (FIN m c)
  | 3 => oPts c (own4 c) (FIN m c)
/-- What has landed on `c` by copy `j`. -/
def recvPay (c : Dev nD) : Fin 4 → sProp 𝕄 := fun
  | 0 => rPts c (ORow (zp c) (PO m (zp c)))
  | 1 => tPts c (ML m (zp c))
  | 2 => oPts c (own (xp c)) (FIN m c)
  | 3 => oPts c (own4 (yp c)) (FIN m c)

instance barPay_storable (c : Dev nD) (d : Fin 3) : BI.Storable (upEmb : UEmb _ 𝕄) (barPay (F := F) c d) := by
  match d with
  | 0 => unfold barPay; infer_instance
  | 1 => unfold barPay; infer_instance
  | 2 => unfold barPay; infer_instance
instance sendPay_storable (c : Dev nD) (j : Fin 4) : BI.Storable (upEmb : UEmb _ 𝕄) (sendPay m c j) := by
  match j with
  | 0 => unfold sendPay; infer_instance
  | 1 => unfold sendPay; infer_instance
  | 2 => unfold sendPay; infer_instance
  | 3 => unfold sendPay; infer_instance
instance recvPay_storable (c : Dev nD) (j : Fin 4) : BI.Storable (upEmb : UEmb _ 𝕄) (recvPay m c j) := by
  match j with
  | 0 => unfold recvPay; infer_instance
  | 1 => unfold recvPay; infer_instance
  | 2 => unfold recvPay; infer_instance
  | 3 => unfold recvPay; infer_instance

/-! ## The schedule -/

def dutiesOf : SemLoc sig → Finset (Fin 3)
  | .reg s => if s = barS then Finset.univ else ∅
  | .dma q => match dec q with
    | some _ => {0}
    | none => ∅
def amountOf' : SemLoc sig → ℕ
  | .reg _ => 1
  | .dma q => match dec q with
    | some (_, j) => N j
    | none => 1
def payloadOf (c : Dev nD) (d : Fin 3) : SemLoc sig → sProp 𝕄
  | .reg _ => barPay c d
  | .dma q => match dec q with
    | some (false, j) => sendPay m c j
    | some (true, j) => recvPay m c j
    | none => iprop(emp)

theorem amountOf'_pos (s : SemLoc sig) : 0 < amountOf' s := by
  unfold amountOf'
  split
  · exact Nat.one_pos
  · split
    · exact N_pos _
    · exact Nat.one_pos

instance payloadOf_storable (c : Dev nD) (d : Fin 3) (s : SemLoc sig) : BI.Storable (upEmb : UEmb _ 𝕄) (payloadOf m c d s) := by
  unfold payloadOf
  (repeat' split) <;> infer_instance

/-- One round, round 0. -/
def Rd : Rounds.Schedule (GSem nD τ sig) (Fin 3) 𝕄 where
  duties g r := if r = 0 ∧ g.1.2 = .tc then dutiesOf g.2 else ∅
  unitless _ := False
  amount g _ _ := amountOf' g.2
  payload g _ d := payloadOf m g.1.1 d g.2
  amount_pos g _ _ _ := amountOf'_pos g.2

instance Rd_payload_storable (g : GSem nD τ sig) (r : ℕ) (d : Fin 3) : BI.Storable (upEmb : UEmb _ 𝕄) ((Rd m).payload g r d) :=
  payloadOf_storable m g.1.1 d g.2

section Sched
variable (c : Dev nD) (j : Fin 4)

theorem duties_bar : (Rd m).duties (barCell c) 0 = Finset.univ := by
  dsimp only [Rd]; rw [if_pos ⟨rfl, rfl⟩]; dsimp only [dutiesOf]; rw [if_pos rfl]
theorem duties_s : (Rd m).duties (sendCell c j) 0 = {0} := by
  dsimp only [Rd]; rw [if_pos ⟨rfl, rfl⟩]; dsimp only [dutiesOf]; rw [dec_s]
theorem duties_r : (Rd m).duties (recvCell c j) 0 = {0} := by
  dsimp only [Rd]; rw [if_pos ⟨rfl, rfl⟩]; dsimp only [dutiesOf]; rw [dec_r]
theorem duties_later (g : GSem nD τ sig) : ∀ r, 1 ≤ r → (Rd m).duties g r = ∅ :=
  fun r hr => if_neg fun h => by omega

theorem amount_bar (d : Fin 3) : (Rd m).amount (barCell c) 0 d = 1 := rfl
theorem amount_s (d : Fin 3) : (Rd m).amount (sendCell c j) 0 d = N j := by show amountOf' (.dma (sS j)) = _; unfold amountOf'; simp only [dec_s]
theorem amount_r (d : Fin 3) : (Rd m).amount (recvCell c j) 0 d = N j := by show amountOf' (.dma (rS j)) = _; unfold amountOf'; simp only [dec_r]

theorem expect_bar : (Rd m).expect (barCell c) 0 = 3 := by
  unfold Schedule.expect Schedule.amountOf
  rw [duties_bar, Finset.sum_congr rfl fun d _ => amount_bar m c d, Finset.sum_const, Finset.card_univ, Fintype.card_fin, smul_eq_mul]
theorem expect_s : (Rd m).expect (sendCell c j) 0 = N j := by
  unfold Schedule.expect Schedule.amountOf; rw [duties_s, Finset.sum_singleton, amount_s]
theorem expect_r : (Rd m).expect (recvCell c j) 0 = N j := by
  unfold Schedule.expect Schedule.amountOf; rw [duties_r, Finset.sum_singleton, amount_r]

theorem payload_bar (d : Fin 3) : (Rd m).payload (barCell c) 0 d = barPay c d := rfl
theorem payload_s (d : Fin 3) : (Rd m).payload (sendCell c j) 0 d = sendPay m c j := by
  show payloadOf m c d (.dma (sS j)) = _; unfold payloadOf; simp only [dec_s]
theorem payload_r (d : Fin 3) : (Rd m).payload (recvCell c j) 0 d = recvPay m c j := by
  show payloadOf m c d (.dma (rS j)) = _; unfold payloadOf; simp only [dec_r]

theorem rest_bar : bigSep ((Rd m).duties (barCell c) 0 \ ∅) (fun d => (Rd m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_s : bigSep ((Rd m).duties (sendCell c j) 0 \ ∅) (fun d => (Rd m).payload (sendCell c j) 0 d) = sendPay m c j := by
  rw [Finset.sdiff_empty, duties_s, bigSep_singleton, payload_s]
theorem rest_r : bigSep ((Rd m).duties (recvCell c j) 0 \ ∅) (fun d => (Rd m).payload (recvCell c j) 0 d) = recvPay m c j := by
  rw [Finset.sdiff_empty, duties_r, bigSep_singleton, payload_r]

end Sched

/-! ## What each device owes at launch; the levels -/

/-- What is owed once the first `3 - k` of the neighbours' landings have been paid, in the order the device pays them. -/
def Or3 (c : Dev nD) : CellTallies nD τ sig Unit := 0 + tallyAt (recvCell (yp c) 3) () (N 3)
def Or2 (c : Dev nD) : CellTallies nD τ sig Unit := Or3 c + tallyAt (recvCell (xp c) 2) () (N 2)
def Or1 (c : Dev nD) : CellTallies nD τ sig Unit := Or2 c + tallyAt (recvCell (zp c) 1) () (N 1)
def Or0 (c : Dev nD) : CellTallies nD τ sig Unit := Or1 c + tallyAt (recvCell (zp c) 0) () (N 0)
def Ob2 (c : Dev nD) : CellTallies nD τ sig Unit := Or0 c + tallyAt (barCell (yp c)) () 1
def Ob1 (c : Dev nD) : CellTallies nD τ sig Unit := Ob2 c + tallyAt (barCell (xp c)) () 1
def O₀ (c : Dev nD) : CellTallies nD τ sig Unit := Ob1 c + tallyAt (barCell (zp c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier is at 1, the landings above it in the order of the waits, everything else at 0. -/
def lvOf : SemLoc sig → ℕ
  | .reg _ => 1
  | .dma q => match dec q with
    | some (true, j) => 2 + j.val
    | _ => 0
def lv (g : GSem nD τ sig) (_ : Unit) : ℕ := lvOf g.2

theorem lv_r (c : Dev nD) (j : Fin 4) : lv (recvCell c j) () = 2 + j.val := by show lvOf (.dma (rS j)) = _; unfold lvOf; simp only [dec_r]
theorem lv_s (c : Dev nD) (j : Fin 4) : lv (sendCell c j) () = 0 := by show lvOf (.dma (sS j)) = _; unfold lvOf; simp only [dec_s]
theorem lv_bar (c : Dev nD) : lv (barCell c) () = 1 := rfl
theorem lv_none (c : Dev nD) (q : DmaSem sig) (h : dec q = none) : lv ((c : Thread nD τ), .dma q) () = 0 := by show lvOf (.dma q) = _; unfold lvOf; simp only [h]

/-- Everything owed is above level `n`. -/
def Above (n : ℕ) (O : CellTallies nD τ sig Unit) : Prop := ∀ g u, 0 < O g u → g.1.2 = .tc ∧ n < lv g u

theorem above_zero (n : ℕ) : Above n 0 := fun _ _ h => absurd h (Nat.lt_irrefl 0)
theorem above_add {n : ℕ} {O : CellTallies nD τ sig Unit} (hO : Above n O) (c : Dev nD) (sm : SemLoc sig) (k : ℕ)
    (h : n < lv ((c : Thread nD τ), sm) ()) : Above n (O + tallyAt ((c : Thread nD τ), sm) () k) := by
  intro g u hg
  rw [Pi.add_apply, Finsupp.add_apply, tallyAt_apply] at hg
  by_cases he : g = ((c : Thread nD τ), sm) ∧ u = ()
  · rw [he.1]; exact ⟨rfl, h⟩
  · rw [if_neg he] at hg; exact hO g u hg

theorem above_Or3 {n : ℕ} (hn : n < 5) (c : Dev nD) : Above n (Or3 c) := above_add (above_zero n) _ _ _ (by rw [lv_r]; exact hn)
theorem above_Or2 {n : ℕ} (hn : n < 4) (c : Dev nD) : Above n (Or2 c) := above_add (above_Or3 (by omega) c) _ _ _ (by rw [lv_r]; exact hn)
theorem above_Or1 {n : ℕ} (hn : n < 3) (c : Dev nD) : Above n (Or1 c) := above_add (above_Or2 (by omega) c) _ _ _ (by rw [lv_r]; exact hn)
theorem above_Or0 {n : ℕ} (hn : n < 2) (c : Dev nD) : Above n (Or0 c) := above_add (above_Or1 (by omega) c) _ _ _ (by rw [lv_r]; exact hn)
theorem above_O₀ (c : Dev nD) : Above 0 (O₀ c) :=
  above_add (above_add (above_add (above_Or0 (by decide) c) _ _ _ Nat.one_pos) _ _ _ Nat.one_pos) _ _ _ Nat.one_pos

theorem mayWait (c : Dev nD) (sm : SemLoc sig) (n : ℕ) (hn : lv ((c : Thread nD τ), sm) () = n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hn.le)
    (fun g u hg => (hO g u hg).2)

/-! ## The ghost state a device starts from -/

abbrev 𝒱₀ : Variants := Variants.none

/-- Every cell's invariant, and that every cell is at its round. -/
def records (K : Dev nD × Fin 9 → ℕ) : sProp 𝕄 :=
  bigSep Finset.univ fun ck : Dev nD × Fin 9 => iprop(cellInv ER (Rd m) (K ck) (kcell ck) ∗ reached ER (kcell ck) 0)

instance records_persistent (K : Dev nD × Fin 9 → ℕ) : BI.Persistent (records m K) := by unfold records; infer_instance

theorem records_at (K : Dev nD × Fin 9 → ℕ) (ck : Dev nD × Fin 9) :
    records m K ⊢ iprop(cellInv ER (Rd m) (K ck) (kcell ck) ∗ reached ER (kcell ck) 0) := by
  unfold records
  exact bigSep_elim (Finset.mem_univ ck)

def ghost (K : Dev nD × Fin 9 → ℕ) (c : Dev nD) : sProp 𝕄 :=
  iprop(records m K
    ∗ (bigSep Finset.univ fun k : Fin 9 => atPos ER (kcell (c, k)) 0 ∅ 0)
    ∗ (dutyTok ER (barCell (zp c)) 0 0 ∗ dutyTok ER (barCell (xp c)) 0 1 ∗ dutyTok ER (barCell (yp c)) 0 2)
    ∗ (bigSep Finset.univ fun j : Fin 4 => dutyTok ER (sendCell c j) 0 0)
    ∗ (bigSep Finset.univ fun j : Fin 4 => dutyTok ER (recvCell (peer c j) j) 0 0))

/-- The credits a device starts from. -/
def creds (c : Dev nD) : sProp 𝕄 :=
  iprop(cred (tallyAt (barCell c) () 3) ∗ (bigSep Finset.univ fun j : Fin 4 => cred (tallyAt (recvCell c j) () (N j))))

end Cert.KernelIdeal.Own

end
-- ==== Proof.Round.lean ====
module

public import proofs.«01_k».proof.Proof.Protocol

/-!
# One round, and all of them

A round with the number as a parameter: the copies of its keys and values are in flight, the other slot is idle; it
starts the next round's copies, waits for its own, and stores what it computed. The thirty-two rounds follow by
induction.
-/

@[expose] public section

set_option maxRecDepth 16384

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Named F]

local notation "𝕄" => MT nD τ sig Unit (Elt F) ℕ UU ℕ

variable (m : (ℓ : Loc nD τ sig) → Buf (Elt F) ℓ)

/-! ## A slot -/

/-- The share of the device's array a slot's copies read with. -/
def sh (i : Nat) : PosShare TreeShare := if i % 2 = 0 then fullShare.left else fullShare.right

section Slot

variable (A : Memref sig .tc .hbm S8x1024x16x128 .f32) (B : Memref sig .tc .vmem S2x1024x128 .f32) (S : DmaSems sig S2) (c : Dev nD)
  (fA : Buf (Elt F) (A.view.loc (c : Thread nD τ)))

/-- What a copy into slot `i` counts. -/
abbrev NB (i : Nat) : ℕ := (dstBlk B i).view.dmaCredit

/-- The elements of slot `i`. -/
def slotSet (i : Nat) : Finset (Idx (B.view.loc (c : Thread nD τ))) := (dstBlk B i).view.set

/-- Slot `i` with no copy in flight. -/
def idle (i : Nat) : sProp 𝕄 :=
  iprop((∃ f, B.view.loc (c : Thread nD τ) ↦[slotSet B c i]{fullShare} f) ∗ semVal ((c : Thread nD τ), .dma (slotSem S i)) 0
    ∗ (A.view.loc (c : Thread nD τ) ↦[A.view.set]{sh i} fA))

/-- Slot `i` holding round `i`'s block, `fd` what it held before. -/
def held {i : Nat} (h : i < 32) (fd : Buf (Elt F) (B.view.loc (c : Thread nD τ))) : sProp 𝕄 :=
  B.view.loc (c : Thread nD τ) ↦[slotSet B c i]{fullShare} (dstBlk B i).view.write (Elt F) fd ((srcBlk A c h).view.read (Elt F) fA) Finset.univ

/-- Slot `i` with the copy of round `i`'s block in flight. -/
def flying {i : Nat} (h : i < 32) : sProp 𝕄 :=
  iprop(∃ fd, Transfers.Flight EC (c : Thread nD τ) (.dma (slotSem S i)) () (NB B i)
      iprop(held A B c fA h fd ∗ (A.view.loc (c : Thread nD τ) ↦[(srcBlk A c h).view.set]{sh i} fA))
    ∗ (A.view.loc (c : Thread nD τ) ↦[A.view.set \ (srcBlk A c h).view.set]{sh i} fA))

theorem srcBlk_sub {i : Nat} (h : i < 32) : (srcBlk A c h).view.set ⊆ A.view.set := by
  refine (Finset.Subset.antisymm_iff.mp (View.set_reshape _ _)).1.trans ?_
  exact View.set_slice_subset _ _

theorem idle_congr {i j : Nat} (h : i % 2 = j % 2) : idle A B S c fA i = idle A B S c fA j := by
  have e1 : offB i = offB j := by unfold offB; rw [h]
  have key : ∀ (o o' : Fin 3 → Nat) (e : o = o') (p : ∀ a, o a + S1x1024x128.size a ≤ S2x1024x128.size a) (p' : ∀ a, o' a + S1x1024x128.size a ≤ S2x1024x128.size a),
      (((B.slice (Rect.unit (s := S2x1024x128) o S1x1024x128.size p) (fun _ => rfl)).squeeze S1024x128 squeezes_S1x1024x128_S1024x128).view.set : Finset (Idx (B.view.loc (c : Thread nD τ))))
        = ((B.slice (Rect.unit (s := S2x1024x128) o' S1x1024x128.size p') (fun _ => rfl)).squeeze S1024x128 squeezes_S1x1024x128_S1024x128).view.set := by
    intro o o' e p p'; subst e; rfl
  have e2 : slotSet B c i = slotSet B c j := key _ _ e1 _ _
  have e3 : slotSem S i = slotSem S j := by
    unfold slotSem; rw [SemArray.slice_unit_congr _ (show offM i = offM j by unfold offM; rw [h]) (offM_inb i) (offM_inb j)]
  have e4 : sh i = sh j := by unfold sh; rw [h]
  unfold idle; rw [e2, e3, e4]

/-- Starting a copy. -/
theorem wp_start {i : Nat} (h : i < 32) {α : Type} {Q : α → sProp 𝕄} {k : PUnit → Prog (TpuEff nD τ sig (Elt F) Λ₀ .tc) α}
    {hsrc : (srcBlk A c h).view.WordExact} {hdst : (dstBlk B i).view.WordExact}
    {hsem : DmaTarget.Typed (nD := nD) (p := (.tc : Proc τ)) .hbm (.dma (slotSem S i)) (.here (dstBlk B i))} :
    idle A B S c fA i
      ⊢ iprop((flying A B S c fA h -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcBlk A c h) (.here (dstBlk B i)) (.dma (slotSem S i)) hsrc hdst hsem) k) Q) := by
  unfold idle
  iintro ⟨⟨%fd, Hd⟩, Hv, Hs⟩ Hk
  ihave Hs' := (pointsTo_split_subset (ℓ := A.view.loc (c : Thread nD τ)) (I := (srcBlk A c h).view.set) (S := A.view.set) (srcBlk_sub A c h)).1 $$ Hs
  icases Hs' with ⟨Hs, Hr⟩
  iapply (Transfers.wp_dmaLocal EC 𝒱₀ (c : Thread nD τ) none (src := srcBlk A c h) (via := ReadAs.same) (dst := dstBlk B i) (Sd := slotSet B c i) (fs := fA) (fd := fd) () (NB B i) rfl
    (View.dmaCredit_pos _ (by decide)) (Finset.Subset.refl _)) $$ [Hs Hd Hv]
  · isplitl [Hs]; · iexact Hs
    isplitl [Hd]; · iexact Hd
    iexact Hv
  iintro HF
  iapply Hk
  unfold flying held
  iexists fd
  isplitl [HF]; · iexact HF
  iexact Hr

/-- Waiting for it. -/
theorem wp_landed {i : Nat} (h : i < 32) (O : CellTallies nD τ sig Unit) (W : Waits sig Unit) {α : Type} {Q : α → sProp 𝕄} {k : PUnit → Prog (TpuEff nD τ sig (Elt F) Λ₀ .tc) α}
    {hsrc : (srcBlk A c h).view.WordExact} {hdst : (dstBlk B i).view.WordExact} :
    iprop(flying A B S c fA h ∗ owes (c : Thread nD τ) O W ∗ MayWait (c : Thread nD τ) (.dma (slotSem S i)) () O)
      ⊢ iprop(((∃ fd, held A B c fA h fd ∗ (held A B c fA h fd -∗ idle A B S c fA i)) ∗ (owes (c : Thread nD τ) O (insert (SemLoc.dma (slotSem S i), ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (slotSem S i) (srcBlk A c h) (dstBlk B i) hsrc hdst) k) Q) := by
  unfold flying
  iintro ⟨⟨%fd, HF, Hr⟩, HO, Hm⟩ Hk
  iapply (Transfers.wp_waitLocalO EC 𝒱₀ (c : Thread nD τ) none (srcw := srcBlk A c h) (dstw := dstBlk B i) () (N := NB B i) rfl (O := O) (W := W)) $$ [HF HO Hm]
  · isplitl [HF]; · iexact HF
    isplitl [HO]; · iexact HO
    iexact Hm
  iintro ⟨⟨Hd, Hs⟩, Hv, HO⟩
  iapply Hk
  isplitr [HO]
  · iexists fd
    isplitl [Hd]; · iexact Hd
    iintro Hd
    ihave Hs' := (pointsTo_split_subset (ℓ := A.view.loc (c : Thread nD τ)) (I := (srcBlk A c h).view.set) (S := A.view.set) (srcBlk_sub A c h)).2 $$ [Hs Hr]
    · isplitl [Hs]; · iexact Hs
      iexact Hr
    unfold idle held
    isplitl [Hd]; · iexists _; iexact Hd
    isplitl [Hv]; · iexact Hv
    iexact Hs'
  iexact HO

end Slot

/-! ## A round -/

section Rnd

variable (c : Dev nD)

abbrev idleK (i : Nat) : sProp 𝕄 := idle kH kM cc0_scratch5 c (KA m c) i
abbrev idleV (i : Nat) : sProp 𝕄 := idle vH vM cc0_scratch6 c (VA m c) i
abbrev flyK {i : Nat} (h : i < 32) : sProp 𝕄 := flying kH kM cc0_scratch5 c (KA m c) h
abbrev flyV {i : Nat} (h : i < 32) : sProp 𝕄 := flying vH vM cc0_scratch6 c (VA m c) h
abbrev heldK {i : Nat} (h : i < 32) (f : (cc0_scratch0 : Ref sig .tc).ty.Contents (Elt F)) : sProp 𝕄 := held kH kM c (KA m c) h f
abbrev heldV {i : Nat} (h : i < 32) (f : (cc0_scratch1 : Ref sig .tc).ty.Contents (Elt F)) : sProp 𝕄 := held vH vM c (VA m c) h f

/-- What a round carries besides the slots: the output and the statistics up to round `n`, the queries, what is owed. -/
def St (n : Nat) : sProp 𝕄 :=
  iprop((∃ f, ⌜AgreeO m c n f⌝ ∗ oPts c (own c) f) ∗ (∃ f, ⌜AgreeM m c n f⌝ ∗ sPts c f)
    ∗ (((c : Thread nD τ).loc cc0_stg0_0) ↦{fullShare} XQ m c) ∗ ∃ W, owes (c : Thread nD τ) (Or0 c) W)

abbrev P := Prog (TpuEff nD τ sig (Elt F) Λ₀ .tc) PUnit

/-- The elements a load of a whole buffer through a rectangle reads. -/
theorem load_set (b : Ref sig .tc) (r : Rect b.ty.shape) : (View.whole b).setOn r.toLoadRect.set = r.set :=
  (View.set_slice (View.whole b) r).symm.trans (View.set_slice_whole b r)

theorem wp_fetch {i : Nat} (h : i < 32) {Q : PUnit → sProp 𝕄} {k : P (F := F)} :
    iprop(idleK m c i ∗ idleV m c i)
      ⊢ iprop((flyK m c h ∗ flyV m c h -∗ wp frame (wpE (defs₀ (F := F)) 𝒱₀ (c : Thread nD τ) none) Set.univ k Q)
          -∗ wp frame (wpE (defs₀ (F := F)) 𝒱₀ (c : Thread nD τ) none) Set.univ (fetch kH vH kM vM cc0_scratch5 cc0_scratch6 c h k) Q) := by
  unfold fetch
  iintro ⟨HK, HV⟩ Hk
  iapply (wp_start kH kM cc0_scratch5 c (KA m c) h) $$ HK
  iintro HK
  iapply (wp_start vH vM cc0_scratch6 c (VA m c) h) $$ HV
  iintro HV
  iapply Hk
  isplitl [HK]; · iexact HK
  iexact HV

theorem wp_work {i : Nat} (h : i < 32) {Q : PUnit → sProp 𝕄} {k : P (F := F)} :
    iprop(levAts L lv ∗ flyK m c h ∗ flyV m c h ∗ St m c i)
      ⊢ iprop((idleK m c i ∗ idleV m c i ∗ St m c (i + 1) -∗ wp frame (wpE (defs₀ (F := F)) 𝒱₀ (c : Thread nD τ) none) Set.univ k Q)
          -∗ wp frame (wpE (defs₀ (F := F)) 𝒱₀ (c : Thread nD τ) none) Set.univ
              (work qM kH vH oM kM vM sM cc0_scratch5 cc0_scratch6 c h k) Q) := by
  unfold work St
  iintro ⟨#Hlv, HK, HV, ⟨%fo, %ho, Ho⟩, ⟨%fs, %hs, Hs⟩, Hq, ⟨%W, HO⟩⟩ Hk
  iapply (wp_landed kH kM cc0_scratch5 c (KA m c) h (Or0 c) W (hsrc := (View.wordExact_bits rfl).reshape _ _) (hdst := (View.wordExact_bits rfl).reshape _ _)) $$ [HK HO]
  · isplitl [HK]; · iexact HK
    isplitl [HO]; · iexact HO
    iapply (mayWait (F := F) c (.dma (kS i)) 0 (lv_none c _ (dec_k i)) (Or0 c) (above_Or0 (by decide) c)); iexact Hlv
  iintro ⟨⟨%fk, HK, HbK⟩, HO⟩
  iapply (wp_landed vH vM cc0_scratch6 c (VA m c) h (Or0 c) _ (hsrc := (View.wordExact_bits rfl).reshape _ _) (hdst := (View.wordExact_bits rfl).reshape _ _)) $$ [HV HO]
  · isplitl [HV]; · iexact HV
    isplitl [HO]; · iexact HO
    iapply (mayWait (F := F) c (.dma (vS i)) 0 (lv_none c _ (dec_v i)) (Or0 c) (above_Or0 (by decide) c)); iexact Hlv
  iintro ⟨⟨%fv, HV, HbV⟩, HO⟩
  iapply (wp_load 𝒱₀ (c : Thread nD τ) none Set.univ (m := qM) (Finset.subset_univ _)) $$ Hq
  iintro Hq
  unfold held
  iapply (wp_load 𝒱₀ (c : Thread nD τ) none Set.univ (m := kM) (S := slotSet kM c i) (q := fullShare) (f := (dstBlk kM i).view.write (Elt F) fk ((srcBlk kH c h).view.read (Elt F) (KA m c)) Finset.univ) (by rw [load_set, rectB_set]; exact (dstBlk_set_k i).symm.subset)) $$ HK
  iintro HK
  iapply (wp_load 𝒱₀ (c : Thread nD τ) none Set.univ (m := vM) (S := slotSet vM c i) (q := fullShare) (f := (dstBlk vM i).view.write (Elt F) fv ((srcBlk vH c h).view.read (Elt F) (VA m c)) Finset.univ) (by rw [load_set, rectB_set]; exact (dstBlk_set_v i).symm.subset)) $$ HV
  iintro HV
  rw [read_slot_k m c ⟨i, h⟩ fk, read_slot_v m c ⟨i, h⟩ fv]
  iapply (wp_load 𝒱₀ (c : Thread nD τ) none Set.univ (m := oM) (S := own c) (by rw [load_set]; exact rectR_sub c h)) $$ Ho
  iintro Ho
  iapply (wp_store 𝒱₀ (c : Thread nD τ) none Set.univ (m := oM) (r := Rect.unit (s := S8x8x16x128) (offR c i) S1x8x1x128.size (offR_inb c h)) (Mk := Finset.univ) (S := own c) (by rw [View.setOn_univ, View.set_slice_whole]; exact rectR_sub c h)) $$ Ho
  iintro Ho
  iapply (wp_load 𝒱₀ (c : Thread nD τ) none Set.univ (m := sM) (Finset.subset_univ _)) $$ Hs
  iintro Hs
  iapply (wp_store 𝒱₀ (c : Thread nD τ) none Set.univ (m := sM) (r := Rect.unit (s := S2x2x8x16) (offS 0 i) S1x1x8x1.size (offS_inb 0 h)) (Mk := Finset.univ) (S := Finset.univ) (Finset.subset_univ _)) $$ Hs
  iintro Hs
  iapply (wp_load 𝒱₀ (c : Thread nD τ) none Set.univ (m := sM) (Finset.subset_univ _)) $$ Hs
  iintro Hs
  iapply (wp_store 𝒱₀ (c : Thread nD τ) none Set.univ (m := sM) (r := Rect.unit (s := S2x2x8x16) (offS 1 i) S1x1x8x1.size (offS_inb 1 h)) (Mk := Finset.univ) (S := Finset.univ) (Finset.subset_univ _)) $$ Hs
  iintro Hs
  iapply Hk
  isplitl [HK HbK]; · iapply HbK; iexact HK
  isplitl [HV HbV]; · iapply HbV; iexact HV
  isplitl [Ho]
  · iexists _; isplitr; swap; · iexact Ho
    ipureintro; exact agreeO_store m c ⟨i, h⟩ fo ho
  isplitl [Hs]
  · iexists _; isplitr; swap; · iexact Hs
    ipureintro; exact agreeM_store m c ⟨i, h⟩ fs hs
  isplitl [Hq]; · iexact Hq
  iexists _; iexact HO

/-- The last `n + 1` rounds. -/
theorem wp_rounds {Q : PUnit → sProp 𝕄} {k : P (F := F)} : ∀ (n : Nat) (hn : n < 32),
    iprop(levAts L lv ∗ (flyK m c (i := 31 - n) (by omega) ∗ flyV m c (i := 31 - n) (by omega)) ∗ (idleK m c n ∗ idleV m c n)
        ∗ St m c (31 - n))
      ⊢ iprop((((idleK m c 0 ∗ idleV m c 0) ∗ (idleK m c 1 ∗ idleV m c 1) ∗ St m c 32)
            -∗ wp frame (wpE (defs₀ (F := F)) 𝒱₀ (c : Thread nD τ) none) Set.univ k Q)
          -∗ wp frame (wpE (defs₀ (F := F)) 𝒱₀ (c : Thread nD τ) none) Set.univ
              (rounds qM kH vH oM kM vM sM cc0_scratch5 cc0_scratch6 c k n hn) Q)
  | 0, hn => by
    unfold rounds
    iintro ⟨#Hlv, ⟨HK, HV⟩, ⟨HK', HV'⟩, HS⟩ Hk
    iapply (wp_work m c (i := 31) _) $$ [HK HV HS]
    · isplitr; · iexact Hlv
      isplitl [HK]; · iexact HK
      isplitl [HV]; · iexact HV
      iexact HS
    iintro ⟨HK, HV, HS⟩
    iapply Hk
    have eK : idleK m c 31 = idleK m c 1 := idle_congr _ _ _ _ _ rfl
    have eV : idleV m c 31 = idleV m c 1 := idle_congr _ _ _ _ _ rfl
    ihave HK := (Entails.of_eq eK) $$ HK
    ihave HV := (Entails.of_eq eV) $$ HV
    isplitl [HK' HV']
    · isplitl [HK']; · iexact HK'
      iexact HV'
    isplitl [HK HV]
    · isplitl [HK]; · iexact HK
      iexact HV
    iexact HS
  | n + 1, hn => by
    unfold rounds
    iintro ⟨#Hlv, ⟨HK, HV⟩, ⟨HK', HV'⟩, HS⟩ Hk
    have eK : idleK m c (n + 1) = idleK m c (31 - n) := idle_congr _ _ _ _ _ (by omega)
    have eV : idleV m c (n + 1) = idleV m c (31 - n) := idle_congr _ _ _ _ _ (by omega)
    ihave HK' := (Entails.of_eq eK) $$ HK'
    ihave HV' := (Entails.of_eq eV) $$ HV'
    iapply (wp_fetch m c (i := 31 - n) _) $$ [HK' HV']
    · isplitl [HK']; · iexact HK'
      iexact HV'
    iintro ⟨HK', HV'⟩
    iapply (wp_work m c (i := 31 - (n + 1)) _) $$ [HK HV HS]
    · isplitr; · iexact Hlv
      isplitl [HK]; · iexact HK
      isplitl [HV]; · iexact HV
      iexact HS
    have fK : idleK m c (31 - (n + 1)) = idleK m c n := idle_congr _ _ _ _ _ (by omega)
    have fV : idleV m c (31 - (n + 1)) = idleV m c n := idle_congr _ _ _ _ _ (by omega)
    have fS : St m c (31 - (n + 1) + 1) = St m c (31 - n) := congrArg (St m c) (by omega)
    iintro ⟨HK, HV, HS⟩
    ihave HK := (Entails.of_eq fK) $$ HK
    ihave HV := (Entails.of_eq fV) $$ HV
    ihave HS := (Entails.of_eq fS) $$ HS
    iapply (wp_rounds n (Nat.lt_of_succ_lt hn)) $$ [HK HV HK' HV' HS]
    · isplitr; · iexact Hlv
      isplitl [HK' HV']
      · isplitl [HK']; · iexact HK'
        iexact HV'
      isplitl [HK HV]
      · isplitl [HK]; · iexact HK
        iexact HV
      iexact HS
    iexact Hk

end Rnd

end Cert.KernelIdeal.Own

end
-- ==== Proof.Exchange.lean ====
module

public import proofs.«01_k».proof.Proof.Round

/-!
# The exchanges between devices

A copy to a neighbour and the two waits that end it, for any of the four copies; then the exchange of the partial
results, the merge, and the two exchanges of finished rows.
-/

@[expose] public section

set_option maxRecDepth 16384

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Named F]

local notation "𝕄" => MT nD τ sig Unit (Elt F) ℕ UU ℕ

variable (m : (ℓ : Loc nD τ sig) → Buf (Elt F) ℓ) (K : Dev nD × Fin 9 → ℕ) (c : Dev nD)

/-! ## What every device may use -/

theorem inv_s (d : Dev nD) (j : Fin 4) : records m K ⊢ cellInv ER (Rd m) (K (d, ks j)) (sendCell d j) := by
  rw [← kcell_s]; exact (records_at m K (d, ks j)).trans sep_elim_left
theorem inv_r (d : Dev nD) (j : Fin 4) : records m K ⊢ cellInv ER (Rd m) (K (d, kr j)) (recvCell d j) := by
  rw [← kcell_r]; exact (records_at m K (d, kr j)).trans sep_elim_left
theorem inv_bar (d : Dev nD) : records m K ⊢ cellInv ER (Rd m) (K (d, 0)) (barCell d) := (records_at m K (d, 0)).trans sep_elim_left
theorem reach_s (d : Dev nD) (j : Fin 4) : records m K ⊢ reached ER (sendCell d j) 0 := by
  rw [← kcell_s]; exact (records_at m K (d, ks j)).trans sep_elim_right
theorem reach_r (d : Dev nD) (j : Fin 4) : records m K ⊢ reached ER (recvCell d j) 0 := by
  rw [← kcell_r]; exact (records_at m K (d, kr j)).trans sep_elim_right
theorem reach_bar (d : Dev nD) : records m K ⊢ reached ER (barCell d) 0 := (records_at m K (d, 0)).trans sep_elim_right

/-! ## One copy -/

/-- What a device holds of copy `j` before it: its places at the two cells, the duties it pays, the landing it is promised. -/
def ends (j : Fin 4) : sProp 𝕄 :=
  iprop(atPos ER (sendCell c j) 0 ∅ 0 ∗ atPos ER (recvCell c j) 0 ∅ 0
    ∗ (dutyTok ER (sendCell c j) 0 0 ∗ dutyTok ER (recvCell (peer c j) j) 0 0) ∗ cred (tallyAt (recvCell c j) () (N j)))
/-- And after it. -/
def ended (j : Fin 4) : sProp 𝕄 := iprop(semVal (sendCell c j) 0 ∗ semVal (recvCell c j) 0)

theorem wp_copy (n : Dev nD) (j : Fin 4) (hn : n = peer c j) {s : Shape} {e : EltTy} {src : Memref sig .tc .vmem s e} {dst : Memref sig .tc .vmem s e}
    {hsc : (dst : Memref sig (Dev.tc n : Thread nD τ).2.kind .vmem s e).view.ref.isScScratch = false}
    {hsrc : src.view.WordExact} {hdst : dst.view.WordExact}
    {hsem : DmaTarget.Typed .vmem (.dma (rS j)) (.remote (Dev.tc n : Thread nD τ) dst (.dma (sS j)) hsc)}
    (hN : dst.view.dmaCredit = N j)
    {α : Type} {Q : α → sProp 𝕄} {k : PUnit → Prog (TpuEff nD τ sig (Elt F) Λ₀ .tc) α}
    (fs : Buf (Elt F) (src.view.loc (c : Thread nD τ))) (fd : Buf (Elt F) (dst.view.loc (peer c j : Thread nD τ)))
    (O : CellTallies nD τ sig Unit) (W : Waits sig Unit)
    (hpay₁ : (src.view.loc (c : Thread nD τ) ↦[src.view.set]{fullShare} fs) ⊢ sendPay m c j)
    (hpay₂ : (dst.view.loc (peer c j : Thread nD τ) ↦[dst.view.set]{fullShare} (dst.view.write (Elt F) fd (src.view.read (Elt F) fs) Finset.univ)) ⊢ recvPay m (peer c j) j) :
    iprop(records m K ∗ (src.view.loc (c : Thread nD τ) ↦[src.view.set]{fullShare} fs) ∗ (dst.view.loc (peer c j : Thread nD τ) ↦[dst.view.set]{fullShare} fd)
        ∗ owes (c : Thread nD τ) (O + tallyAt (recvCell (peer c j) j) () (N j)) W
        ∗ dutyTok ER (sendCell c j) 0 0 ∗ dutyTok ER (recvCell (peer c j) j) 0 0)
      ⊢ iprop(((cred (tallyAt (sendCell c j) () (N j)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sS j)) hsc) (.dma (rS j)) hsrc hdst hsem) k) Q) := by
  subst hn
  iintro ⟨#HR, Hs, Hd, HO, Ht, Ht'⟩ Hk
  iapply (Rounds.wp_send_pointsTo 𝒱₀ ER (Rd m) (c : Thread nD τ) none (κ₁ := K (c, ks j)) (κ₂ := K (peer c j, kr j))
    (c' := (Dev.tc (peer c j) : Thread nD τ)) (sS := .dma (sS j)) (sem := .dma (rS j)) (r₁ := 0) (r₂ := 0) (d₁ := 0) (d₂ := 0) (fs := fs) (fd := fd)
    (by rw [duties_s]; exact Finset.mem_singleton_self _) (by rw [duties_r]; exact Finset.mem_singleton_self _)
    () () (N j) hN (amount_s m c j 0) (amount_r m (peer c j) j 0) O rfl (W := W)
    (by rw [payload_s]; exact hpay₁) (by rw [payload_r]; exact hpay₂)) $$ [Hs Hd HO Ht Ht']
  · isplitr; · iapply (inv_s m K c j); iexact HR
    isplitr; · iapply (inv_r m K (peer c j) j); iexact HR
    isplitl [Hs]; · iexact Hs
    isplitl [Hd]; · iexact Hd
    isplitl [HO]; · iexact HO
    isplitl [Ht]; · iexact Ht
    isplitr; · iapply (reach_s m K c j); iexact HR
    isplitl [Ht']; · iexact Ht'
    iapply (reach_r m K (peer c j) j); iexact HR
  iexact Hk

/-- The wait for the end of a copy at either of its cells, which closes the cell. -/
theorem wp_wait (q : DmaSem sig) (κ : ℕ) (n : ℕ) (Pay : sProp 𝕄)
    (hexp : (Rd m).expect ((c : Thread nD τ), .dma q) 0 = n)
    (hrest : bigSep ((Rd m).duties ((c : Thread nD τ), .dma q) 0 \ ∅) (fun d => (Rd m).payload ((c : Thread nD τ), .dma q) 0 d) = Pay)
    {s s' : Shape} {e e' : EltTy} {src : Memref sig .tc .vmem s' e'} {dst : Memref sig .tc .vmem s e} {hsrc : src.view.WordExact} {hdst : dst.view.WordExact}
    (hN : dst.view.dmaCredit = n)
    {α : Type} {Q : α → sProp 𝕄} {k : PUnit → Prog (TpuEff nD τ sig (Elt F) Λ₀ .tc) α}
    (l : ℕ) (hl : lv ((c : Thread nD τ), .dma q) () = l) (O : CellTallies nD τ sig Unit) (hO : Above l O) (W : Waits sig Unit) :
    iprop(cellInv ER (Rd m) κ ((c : Thread nD τ), .dma q) ∗ cred (tallyAt ((c : Thread nD τ), .dma q) () n) ∗ owes (c : Thread nD τ) O W ∗ levAts L lv
        ∗ atPos ER ((c : Thread nD τ), .dma q) 0 ∅ 0)
      ⊢ iprop((Pay ∗ owes (c : Thread nD τ) O (insert (SemLoc.dma q, ()) W) ∗ semVal ((c : Thread nD τ), .dma q) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hN
  iintro ⟨#HI, Hc, HO, #Hlv, Hat⟩ Hk
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, hexp])) $$ [Hc HO Hat]
  · isplitr; · iexact HI
    isplitl [Hc]; · iexact Hc
    isplitl [HO]; · iexact HO
    isplitr; · iapply (mayWait (F := F) c (.dma q) l hl O hO); iexact Hlv
    iexact Hat
  iintro ⟨HO, Hat, -, Hpay⟩
  ihave Hp := (Entails.of_eq hrest) $$ Hpay
  imod (Rounds.cell_close ER (Rd m) (Set.mem_univ κ) (fun h => h) (R := 0 + 1) (duties_later m ((c : Thread nD τ), .dma q))) $$ [Hat] with Hz
  · isplitr; · iexact HI
    iexact Hat
  iapply Hk
  isplitl [Hp]; · iexact Hp
  isplitl [HO]; · iexact HO
  iexact Hz

theorem wp_wait_send (j : Fin 4) {s s' : Shape} {e e' : EltTy} {src : Memref sig .tc .vmem s' e'} {dst : Memref sig .tc .vmem s e}
    {hsrc : src.view.WordExact} {hdst : dst.view.WordExact} (hN : dst.view.dmaCredit = N j)
    {α : Type} {Q : α → sProp 𝕄} {k : PUnit → Prog (TpuEff nD τ sig (Elt F) Λ₀ .tc) α} (O : CellTallies nD τ sig Unit)
    (hO : Above 0 O) (W : Waits sig Unit) :
    iprop(records m K ∗ cred (tallyAt (sendCell c j) () (N j)) ∗ owes (c : Thread nD τ) O W ∗ levAts L lv ∗ atPos ER (sendCell c j) 0 ∅ 0)
      ⊢ iprop((sendPay m c j ∗ owes (c : Thread nD τ) O (insert (SemLoc.dma (sS j), ()) W) ∗ semVal (sendCell c j) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sS j) src dst hsrc hdst) k) Q) := by
  refine BI.Entails.trans (sep_mono_left (inv_s m K c j)) ?_
  exact (wp_wait m c (sS j) (K (c, ks j)) (N j) (sendPay m c j) (expect_s m c j) (rest_s m c j) hN 0 (lv_s c j) O hO W)

theorem wp_wait_recv (j : Fin 4) {s s' : Shape} {e e' : EltTy} {src : Memref sig .tc .vmem s' e'} {dst : Memref sig .tc .vmem s e}
    {hsrc : src.view.WordExact} {hdst : dst.view.WordExact} (hN : dst.view.dmaCredit = N j)
    {α : Type} {Q : α → sProp 𝕄} {k : PUnit → Prog (TpuEff nD τ sig (Elt F) Λ₀ .tc) α} (O : CellTallies nD τ sig Unit)
    (hO : Above (2 + j.val) O) (W : Waits sig Unit) :
    iprop(records m K ∗ cred (tallyAt (recvCell c j) () (N j)) ∗ owes (c : Thread nD τ) O W ∗ levAts L lv ∗ atPos ER (recvCell c j) 0 ∅ 0)
      ⊢ iprop((recvPay m c j ∗ owes (c : Thread nD τ) O (insert (SemLoc.dma (rS j), ()) W) ∗ semVal (recvCell c j) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rS j) src dst hsrc hdst) k) Q) := by
  refine BI.Entails.trans (sep_mono_left (inv_r m K c j)) ?_
  exact (wp_wait m c (rS j) (K (c, kr j)) (N j) (recvPay m c j) (expect_r m c j) (rest_r m c j) hN (2 + j.val) (lv_r c j) O hO W)

/-! ## The four copies -/

theorem rows2_pts (d e : Dev nD) (f : Buf (Elt F) ((e : Thread nD τ).loc cc0_stg1_0)) :
    (((rows2 oM d).view.loc (e : Thread nD τ) ↦[(rows2 oM d).view.set]{fullShare} f) : sProp 𝕄) = oPts e (own d) f :=
  congrArg (fun S : Finset (Idx ((e : Thread nD τ).loc cc0_stg1_0)) => (((e : Thread nD τ).loc cc0_stg1_0 ↦[S]{fullShare} f) : sProp 𝕄)) (rows2_set d)
theorem rows4_pts (d e : Dev nD) (f : Buf (Elt F) ((e : Thread nD τ).loc cc0_stg1_0)) :
    (((rows4 oM d).view.loc (e : Thread nD τ) ↦[(rows4 oM d).view.set]{fullShare} f) : sProp 𝕄) = oPts e (own4 d) f :=
  congrArg (fun S : Finset (Idx ((e : Thread nD τ).loc cc0_stg1_0)) => (((e : Thread nD τ).loc cc0_stg1_0 ↦[S]{fullShare} f) : sProp 𝕄)) (rows4_set d)

theorem whole_pts (b : Ref sig .tc) (d : Dev nD) (f : Buf (Elt F) ((d : Thread nD τ).loc b)) :
    (((Memref.whole b).view.loc (d : Thread nD τ) ↦[(Memref.whole b).view.set]{fullShare} f) : sProp 𝕄) = ((d : Thread nD τ).loc b ↦{fullShare} f) :=
  congrArg (fun S : Finset (Idx ((d : Thread nD τ).loc b)) => (((d : Thread nD τ).loc b ↦[S]{fullShare} f) : sProp 𝕄)) (View.set_whole b)

theorem land0 (fd : Buf (Elt F) ((zp c : Thread nD τ).loc cc0_scratch3)) :
    ((rM.view.loc (zp c : Thread nD τ) ↦[rM.view.set]{fullShare} (rM.view.write (Elt F) fd ((rows2 oM c).view.read (Elt F) (PO m c)) Finset.univ)) : sProp 𝕄)
      ⊢ recvPay m (zp c) 0 := by
  unfold recvPay
  rw [zp_zp, View.set_whole]
  exact Entails.of_eq (congrArg (fun f => rPts (zp c) f) (View.write_whole_univ _ _ _))

theorem land1 (fd : Buf (Elt F) ((zp c : Thread nD τ).loc cc0_scratch4)) :
    ((tM.view.loc (zp c : Thread nD τ) ↦[tM.view.set]{fullShare} (tM.view.write (Elt F) fd (sM.view.read (Elt F) (ML m c)) Finset.univ)) : sProp 𝕄)
      ⊢ recvPay m (zp c) 1 := by
  unfold recvPay
  rw [zp_zp, View.set_whole]
  exact Entails.of_eq (congrArg (fun f => tPts (zp c) f) (View.write_whole_univ _ _ _))

theorem land2 (fd : Buf (Elt F) ((xp c : Thread nD τ).loc cc0_stg1_0)) :
    (((rows2 oM c).view.loc (xp c : Thread nD τ) ↦[(rows2 oM c).view.set]{fullShare}
        ((rows2 oM c).view.write (Elt F) fd ((rows2 oM c).view.read (Elt F) (FIN m c)) Finset.univ)) : sProp 𝕄) ⊢ recvPay m (xp c) 2 := by
  unfold recvPay
  rw [xp_xp, FIN_xp, pointsTo_congr (write_read_self (rows2 oM c).view fd (FIN m c))]
  exact Entails.of_eq (rows2_pts c (xp c) _)

theorem land3 (fd : Buf (Elt F) ((yp c : Thread nD τ).loc cc0_stg1_0)) :
    (((rows4 oM c).view.loc (yp c : Thread nD τ) ↦[(rows4 oM c).view.set]{fullShare}
        ((rows4 oM c).view.write (Elt F) fd ((rows4 oM c).view.read (Elt F) (FIN m c)) Finset.univ)) : sProp 𝕄) ⊢ recvPay m (yp c) 3 := by
  unfold recvPay
  rw [yp_yp, FIN_yp, pointsTo_congr (write_read_self (rows4 oM c).view fd (FIN m c))]
  exact Entails.of_eq (rows4_pts c (yp c) _)

/-! ## The exchange of the partial results -/

theorem wp_swap (W : Waits sig Unit) {Q : PUnit → sProp 𝕄} {k : P (F := F)} :
    iprop(records m K ∗ levAts L lv ∗ (oPts c (own c) (PO m c) ∗ sPts c (ML m c)) ∗ ((∃ f, rPts (zp c) f) ∗ ∃ f, tPts (zp c) f)
        ∗ owes (c : Thread nD τ) (Or0 c) W ∗ ends c 0 ∗ ends c 1)
      ⊢ iprop(((oPts c (own c) (PO m c) ∗ sPts c (ML m c)) ∗ (rPts c (ORow (zp c) (PO m (zp c))) ∗ tPts c (ML m (zp c)))
            ∗ (∃ W, owes (c : Thread nD τ) (Or2 c) W) ∗ ended c 0 ∗ ended c 1
            -∗ wp frame (wpE (defs₀ (F := F)) 𝒱₀ (c : Thread nD τ) none) Set.univ k Q)
          -∗ wp frame (wpE (defs₀ (F := F)) 𝒱₀ (c : Thread nD τ) none) Set.univ
              (swapHalves oM sM rM tM (Memref.isWhole_whole _) (Memref.isWhole_whole _) (Memref.isWhole_whole _) cc0_scratch7 cc0_scratch8 c k) Q) := by
  unfold swapHalves ends
  iintro ⟨#HR, #Hlv, ⟨Ho, Hs⟩, ⟨⟨%fr, Hr⟩, ⟨%ft, Ht⟩⟩, HO, ⟨HaS0, HaR0, HT0, HcR0⟩, ⟨HaS1, HaR1, HT1, HcR1⟩⟩ Hk
  ihave Ho := (Entails.of_eq (rows2_pts c c (PO m c)).symm) $$ Ho
  ihave Hr := (Entails.of_eq (whole_pts cc0_scratch3 (zp c) fr).symm) $$ Hr
  ihave Ht := (Entails.of_eq (whole_pts cc0_scratch4 (zp c) ft).symm) $$ Ht
  ihave Hs := (Entails.of_eq (whole_pts cc0_scratch2 c (ML m c)).symm) $$ Hs
  iapply (wp_copy m K c _ 0 (dev4_eq c) (src := rows2 oM c) (dst := rM) rfl (PO m c) fr (Or1 c) W (Entails.of_eq (rows2_pts c c (PO m c))) (land0 m c fr)) $$ [Ho Hr HO HT0]
  · isplitr; · iexact HR
    isplitl [Ho]; · iexact Ho
    isplitl [Hr]; · iexact Hr
    isplitl [HO]; · iexact HO
    iexact HT0
  iintro ⟨HcS0, HO⟩
  iapply (wp_copy m K c _ 1 (dev5_eq c) (src := sM) (dst := tM) rfl (ML m c) ft (Or2 c) W (Entails.of_eq (whole_pts cc0_scratch2 c (ML m c))) (land1 m c ft)) $$ [Hs Ht HO HT1]
  · isplitr; · iexact HR
    isplitl [Hs]; · iexact Hs
    isplitl [Ht]; · iexact Ht
    isplitl [HO]; · iexact HO
    iexact HT1
  iintro ⟨HcS1, HO⟩
  iapply (wp_wait_send m K c 0 (src := rM) (dst := rows2 oM c) rfl (Or2 c) (above_Or2 (by decide) c) W) $$ [HcS0 HO HaS0]
  · isplitr; · iexact HR
    isplitl [HcS0]; · iexact HcS0
    isplitl [HO]; · iexact HO
    isplitr; · iexact Hlv
    iexact HaS0
  iintro ⟨Ho, HO, HzS0⟩
  iapply (wp_wait_recv m K c 0 (src := rows2 oM c) (dst := rM) rfl (Or2 c) (above_Or2 (by decide) c) _) $$ [HcR0 HO HaR0]
  · isplitr; · iexact HR
    isplitl [HcR0]; · iexact HcR0
    isplitl [HO]; · iexact HO
    isplitr; · iexact Hlv
    iexact HaR0
  iintro ⟨Hr, HO, HzR0⟩
  iapply (wp_wait_send m K c 1 (src := tM) (dst := sM) rfl (Or2 c) (above_Or2 (by decide) c) _) $$ [HcS1 HO HaS1]
  · isplitr; · iexact HR
    isplitl [HcS1]; · iexact HcS1
    isplitl [HO]; · iexact HO
    isplitr; · iexact Hlv
    iexact HaS1
  iintro ⟨Hs, HO, HzS1⟩
  iapply (wp_wait_recv m K c 1 (src := sM) (dst := tM) rfl (Or2 c) (above_Or2 (by decide) c) _) $$ [HcR1 HO HaR1]
  · isplitr; · iexact HR
    isplitl [HcR1]; · iexact HcR1
    isplitl [HO]; · iexact HO
    isplitr; · iexact Hlv
    iexact HaR1
  iintro ⟨Ht, HO, HzR1⟩
  iapply Hk
  unfold sendPay recvPay ended
  isplitl [Ho Hs]
  · isplitl [Ho]; · iexact Ho
    iexact Hs
  isplitl [Hr Ht]
  · isplitl [Hr]; · iexact Hr
    iexact Ht
  isplitl [HO]; · iexists _; iexact HO
  isplitl [HzS0 HzR0]
  · isplitl [HzS0]; · iexact HzS0
    iexact HzR0
  isplitl [HzS1]; · iexact HzS1
  iexact HzR1

/-! ## The merge -/

theorem wp_merge {Q : PUnit → sProp 𝕄} {k : P (F := F)} :
    iprop((oPts c (own c) (PO m c) ∗ sPts c (ML m c)) ∗ (rPts c (ORow (zp c) (PO m (zp c))) ∗ tPts c (ML m (zp c))))
      ⊢ iprop((oPts c (own c) (FIN m c) ∗ sPts c (ML m c) ∗ (∃ f, rPts c f) ∗ (∃ f, tPts c f)
            -∗ wp frame (wpE (defs₀ (F := F)) 𝒱₀ (c : Thread nD τ) none) Set.univ k Q)
          -∗ wp frame (wpE (defs₀ (F := F)) 𝒱₀ (c : Thread nD τ) none) Set.univ (merge oM sM rM tM c k) Q) := by
  have hsub : (Rect.unit (s := S8x8x16x128) (k0_off34 c) S2x8x16x128.size (k0_off34_inb c)).set ⊆ own c := by
    rw [rect34_eq, ← rows2_set]; exact (View.set_slice_whole cc0_stg1_0 _).symm.subset
  unfold merge
  iintro ⟨⟨Ho, Hs⟩, Hr, Ht⟩ Hk
  iapply (wp_load 𝒱₀ (c : Thread nD τ) none Set.univ (m := sM) (Finset.subset_univ _)) $$ Hs; iintro Hs
  iapply (wp_load 𝒱₀ (c : Thread nD τ) none Set.univ (m := sM) (Finset.subset_univ _)) $$ Hs; iintro Hs
  iapply (wp_load 𝒱₀ (c : Thread nD τ) none Set.univ (m := tM) (Finset.subset_univ _)) $$ Ht; iintro Ht
  iapply (wp_load 𝒱₀ (c : Thread nD τ) none Set.univ (m := tM) (Finset.subset_univ _)) $$ Ht; iintro Ht
  iapply (wp_load 𝒱₀ (c : Thread nD τ) none Set.univ (m := oM) (S := own c) (by rw [load_set]; exact hsub)) $$ Ho; iintro Ho
  iapply (wp_load 𝒱₀ (c : Thread nD τ) none Set.univ (m := rM) (Finset.subset_univ _)) $$ Hr; iintro Hr
  iapply (wp_load 𝒱₀ (c : Thread nD τ) none Set.univ (m := oM) (S := own c) (by rw [load_set]; exact hsub)) $$ Ho; iintro Ho
  rw [read_stat0, read_stat1, read_stat0', read_stat1', read_rows, read_recv]
  iapply (wp_store 𝒱₀ (c : Thread nD τ) none Set.univ (m := oM) (r := Rect.unit (s := S8x8x16x128) (k0_off34 c) S2x8x16x128.size (k0_off34_inb c)) (Mk := Finset.univ) (S := own c)
    (by rw [View.setOn_univ, View.set_slice_whole]; exact hsub)) $$ Ho; iintro Ho
  iapply Hk
  isplitl [Ho]
  · iapply (Entails.of_eq (pointsTo_congr (store_fin m c (PO m c)))); iexact Ho
  isplitl [Hs]; · iexact Hs
  isplitl [Hr]; · iexists _; iexact Hr
  iexists _; iexact Ht

/-! ## The exchanges of finished rows -/

theorem wp_gather (W : Waits sig Unit) {Q : PUnit → sProp 𝕄} :
    iprop(records m K ∗ levAts L lv ∗ oPts c (own c) (FIN m c) ∗ ((∃ f, oPts (xp c) (own c) f) ∗ ∃ f, oPts (yp c) (own4 c) f)
        ∗ owes (c : Thread nD τ) (Or2 c) W ∗ ends c 2 ∗ ends c 3)
      ⊢ iprop((oPts c Finset.univ (FIN m c) ∗ (∃ W, owes (c : Thread nD τ) 0 W) ∗ ended c 2 ∗ ended c 3 -∗ Q ⟨⟩)
          -∗ wp frame (wpE (defs₀ (F := F)) 𝒱₀ (c : Thread nD τ) none) Set.univ (gather oM cc0_scratch7 cc0_scratch8 c) Q) := by
  unfold gather ends
  iintro ⟨#HR, #Hlv, Ho, ⟨⟨%fx, Hx⟩, ⟨%fy, Hy⟩⟩, HO, ⟨HaS0, HaR0, HT0, HcR0⟩, ⟨HaS1, HaR1, HT1, HcR1⟩⟩ Hk
  ihave Ho := (Entails.of_eq (rows2_pts c c (FIN m c)).symm) $$ Ho
  ihave Hx := (Entails.of_eq (rows2_pts c (xp c) fx).symm) $$ Hx
  ihave Hy := (Entails.of_eq (rows4_pts c (yp c) fy).symm) $$ Hy
  iapply (wp_copy m K c _ 2 (dev6_eq c) (src := rows2 oM c) (dst := rows2 oM c) rfl (FIN m c) fx (Or3 c) W (Entails.of_eq (rows2_pts c c (FIN m c))) (land2 m c fx)) $$ [Ho Hx HO HT0]
  · isplitr; · iexact HR
    isplitl [Ho]; · iexact Ho
    isplitl [Hx]; · iexact Hx
    isplitl [HO]; · iexact HO
    iexact HT0
  iintro ⟨HcS0, HO⟩
  iapply (wp_wait_send m K c 2 (src := rows2 oM c) (dst := rows2 oM c) rfl (Or3 c) (above_Or3 (by decide) c) W) $$ [HcS0 HO HaS0]
  · isplitr; · iexact HR
    isplitl [HcS0]; · iexact HcS0
    isplitl [HO]; · iexact HO
    isplitr; · iexact Hlv
    iexact HaS0
  iintro ⟨Ho, HO, HzS0⟩
  iapply (wp_wait_recv m K c 2 (src := rows2 oM c) (dst := rows2 oM c) rfl (Or3 c) (above_Or3 (by decide) c) _) $$ [HcR0 HO HaR0]
  · isplitr; · iexact HR
    isplitl [HcR0]; · iexact HcR0
    isplitl [HO]; · iexact HO
    isplitr; · iexact Hlv
    iexact HaR0
  iintro ⟨Hx, HO, HzR0⟩
  unfold sendPay recvPay
  ihave Ho := (Entails.of_eq (congrArg (fun S => oPts c S (FIN m c)) (own_union c))) $$ [Ho Hx]
  · iapply (pointsTo_union (own_disjoint c)).2
    isplitl [Ho]; · iexact Ho
    iexact Hx
  ihave Ho := (Entails.of_eq (rows4_pts c c (FIN m c)).symm) $$ Ho
  iapply (wp_copy m K c _ 3 (dev7_eq c) (src := rows4 oM c) (dst := rows4 oM c) rfl (FIN m c) fy 0 _ (Entails.of_eq (rows4_pts c c (FIN m c))) (land3 m c fy)) $$ [Ho Hy HO HT1]
  · isplitr; · iexact HR
    isplitl [Ho]; · iexact Ho
    isplitl [Hy]; · iexact Hy
    isplitl [HO]; · iexact HO
    iexact HT1
  iintro ⟨HcS1, HO⟩
  iapply (wp_wait_send m K c 3 (src := rows4 oM c) (dst := rows4 oM c) rfl 0 (above_zero _) _) $$ [HcS1 HO HaS1]
  · isplitr; · iexact HR
    isplitl [HcS1]; · iexact HcS1
    isplitl [HO]; · iexact HO
    isplitr; · iexact Hlv
    iexact HaS1
  iintro ⟨Ho, HO, HzS1⟩
  iapply (wp_wait_recv m K c 3 (src := rows4 oM c) (dst := rows4 oM c) rfl 0 (above_zero _) _) $$ [HcR1 HO HaR1]
  · isplitr; · iexact HR
    isplitl [HcR1]; · iexact HcR1
    isplitl [HO]; · iexact HO
    isplitr; · iexact Hlv
    iexact HaR1
  iintro ⟨Hy, HO, HzR1⟩
  unfold sendPay recvPay
  ihave Ho := (Entails.of_eq (congrArg (fun S => oPts c S (FIN m c)) (own4_union c))) $$ [Ho Hy]
  · iapply (pointsTo_union (own4_disjoint c)).2
    isplitl [Ho]; · iexact Ho
    iexact Hy
  rw [wp_ret]; imodintro
  iapply Hk
  unfold ended
  isplitl [Ho]; · iexact Ho
  isplitl [HO]; · iexists _; iexact HO
  isplitl [HzS0 HzR0]
  · isplitl [HzS0]; · iexact HzS0
    iexact HzR0
  isplitl [HzS1]; · iexact HzS1
  iexact HzR1

end Cert.KernelIdeal.Own

end
-- ==== Proof.Body.lean ====
module

public import proofs.«01_k».proof.Proof.Exchange

/-!
# The body of a device

What a device holds when its body starts and when it ends, and that the body takes the one to the other: the
handshake, the thirty-two rounds, the exchange of the partial results, the merge, the two exchanges of finished rows.
-/

@[expose] public section

set_option maxRecDepth 16384

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 9 → ℕ) (c : Dev nD)

/-! ## The slots, dealt and gathered -/

section Slots

variable (A : Memref sig .tc .hbm S8x1024x16x128 .f32) (B : Memref sig .tc .vmem S2x1024x128 .f32) (S : DmaSems sig S2)
  (fA : Buf (Elt F) (A.view.loc (c : Thread nD τ)))

theorem idles_intro (hA : A.view.set = Finset.univ) (hU : slotSet B c 0 ∪ slotSet B c 1 = Finset.univ) (hD : Disjoint (slotSet B c 0) (slotSet B c 1)) :
    iprop((A.view.loc (c : Thread nD τ) ↦{fullShare} fA) ∗ (∃ f, B.view.loc (c : Thread nD τ) ↦{fullShare} f)
        ∗ semVal ((c : Thread nD τ), .dma (slotSem S 0)) 0 ∗ semVal ((c : Thread nD τ), .dma (slotSem S 1)) 0)
      ⊢ (iprop(idle A B S c fA 0 ∗ idle A B S c fA 1) : sProp 𝕄) := by
  unfold idle
  rw [hA, show sh 0 = fullShare.left from rfl, show sh 1 = fullShare.right from rfl, ← hU]
  iintro ⟨Ha, ⟨%f, Hf⟩, H0, H1⟩
  ihave Ha := (pointsTo_share (PosShare.mem_left_op_right fullShare)).1 $$ Ha
  icases Ha with ⟨HaL, HaR⟩
  ihave Hf := (pointsTo_union hD).1 $$ Hf
  icases Hf with ⟨Hf0, Hf1⟩
  isplitl [HaL Hf0 H0]
  · isplitl [Hf0]; · iexists f; iexact Hf0
    isplitl [H0]; · iexact H0
    iexact HaL
  isplitl [Hf1]; · iexists f; iexact Hf1
  isplitl [H1]; · iexact H1
  iexact HaR

theorem idles_elim (hA : A.view.set = Finset.univ) (hU : slotSet B c 0 ∪ slotSet B c 1 = Finset.univ) (hD : Disjoint (slotSet B c 0) (slotSet B c 1)) :
    (iprop(idle A B S c fA 0 ∗ idle A B S c fA 1) : sProp 𝕄)
      ⊢ iprop((A.view.loc (c : Thread nD τ) ↦{fullShare} fA) ∗ (∃ f, B.view.loc (c : Thread nD τ) ↦{fullShare} f)
        ∗ semVal ((c : Thread nD τ), .dma (slotSem S 0)) 0 ∗ semVal ((c : Thread nD τ), .dma (slotSem S 1)) 0) := by
  unfold idle
  rw [hA, show sh 0 = fullShare.left from rfl, show sh 1 = fullShare.right from rfl, ← hU]
  iintro ⟨⟨⟨%f, Hf0⟩, H0, HaL⟩, ⟨%g, Hf1⟩, H1, HaR⟩
  isplitl [HaL HaR]
  · iapply (pointsTo_share (PosShare.mem_left_op_right fullShare)).2
    isplitl [HaL]; · iexact HaL
    iexact HaR
  isplitl [Hf0 Hf1]
  · iexists _
    iapply (pointsTo_join hD)
    isplitl [Hf0]; · iexact Hf0
    iexact Hf1
  isplitl [H0]; · iexact H0
  iexact H1

end Slots

theorem slotsK_union : slotSet kM c 0 ∪ slotSet kM c 1 = Finset.univ := by
  unfold slotSet; rw [dstBlk_set_k, dstBlk_set_k]; exact slot_union 0
theorem slotsK_disjoint : Disjoint (slotSet kM c 0) (slotSet kM c 1) := by
  unfold slotSet; rw [dstBlk_set_k, dstBlk_set_k]; exact slot_disjoint 0
theorem slotsV_union : slotSet vM c 0 ∪ slotSet vM c 1 = Finset.univ := by
  unfold slotSet; rw [dstBlk_set_v, dstBlk_set_v]; exact slot_union 0
theorem slotsV_disjoint : Disjoint (slotSet vM c 0) (slotSet vM c 1) := by
  unfold slotSet; rw [dstBlk_set_v, dstBlk_set_v]; exact slot_disjoint 0

/-! ## Before and after -/

/-- The memory at launch. -/
def s₀ : MemSt nD τ sig (Elt F) := ⟨m, fun _ => 0, ρ⟩

/-- The counters of the slots' semaphores. -/
def slotSems : sProp 𝕄 :=
  iprop(semVal ((c : Thread nD τ), .dma (kS 0)) 0 ∗ semVal ((c : Thread nD τ), .dma (kS 1)) 0
    ∗ semVal ((c : Thread nD τ), .dma (vS 0)) 0 ∗ semVal ((c : Thread nD τ), .dma (vS 1)) 0)

/-- The keys and values, unchanged. -/
def kv : sProp 𝕄 := iprop((((c : Thread nD τ).loc main_arg1) ↦{fullShare} KA m c) ∗ (((c : Thread nD τ).loc main_arg2) ↦{fullShare} VA m c))

/-- Every scratch buffer, holding anything. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f, sPts c f) ∗ (∃ f, rPts c f) ∗ ∃ f, tPts c f)

def start : sProp 𝕄 := iprop(((∃ K, ghost m K c) ∗ slotSems c) ∗ creds c ∗ levAts L lv ∗ kv m c)

def Φ₀ : sProp 𝕄 := iprop(start m c ∗ scratch c)
def Φ₁ : sProp 𝕄 :=
  iprop(scratch c ∗ kv m c ∗ slotSems c ∗ (ended c 0 ∗ ended c 1 ∗ ended c 2 ∗ ended c 3) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => XQ m c
    | ⟨1, _⟩ => FIN m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [fin_N t]; rfl

theorem bigSep_W (Φ : Fin cfg0.W → sProp 𝕄) : bigSep Finset.univ Φ = iprop(Φ (0 : Fin 2) ∗ Φ (1 : Fin 2)) := Gen.bigSep_W0 Φ

/-- Staging buffer `b` at contents `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The ghost state and the credits, copy by copy. -/
theorem ghost_ends :
    iprop(ghost m K c ∗ creds c) ⊢ iprop(records m K ∗ (atPos ER (barCell c) 0 ∅ 0 ∗ cred (tallyAt (barCell c) () 3))
      ∗ (dutyTok ER (barCell (zp c)) 0 0 ∗ dutyTok ER (barCell (xp c)) 0 1 ∗ dutyTok ER (barCell (yp c)) 0 2)
      ∗ (ends c 0 ∗ ends c 1) ∗ (ends c 2 ∗ ends c 3)) := by
  unfold ghost creds ends
  rw [bigSep_fin9, bigSep_fin4, bigSep_fin4, bigSep_fin4]
  iintro ⟨⟨#HR, ⟨Hb, Hs0, Hs1, Hs2, Hs3, Hr0, Hr1, Hr2, Hr3⟩, Htb, ⟨Hts0, Hts1, Hts2, Hts3⟩, ⟨Htr0, Htr1, Htr2, Htr3⟩⟩, Hcb, ⟨Hc0, Hc1, Hc2, Hc3⟩⟩
  isplitr; · iexact HR
  isplitl [Hb Hcb]
  · isplitl [Hb]; · iexact Hb
    iexact Hcb
  isplitl [Htb]; · iexact Htb
  isplitl [Hs0 Hr0 Hts0 Htr0 Hc0 Hs1 Hr1 Hts1 Htr1 Hc1]
  · isplitl [Hs0 Hr0 Hts0 Htr0 Hc0]
    · isplitl [Hs0]; · iexact Hs0
      isplitl [Hr0]; · iexact Hr0
      isplitl [Hts0 Htr0]
      · isplitl [Hts0]; · iexact Hts0
        iexact Htr0
      iexact Hc0
    · isplitl [Hs1]; · iexact Hs1
      isplitl [Hr1]; · iexact Hr1
      isplitl [Hts1 Htr1]
      · isplitl [Hts1]; · iexact Hts1
        iexact Htr1
      iexact Hc1
  · isplitl [Hs2 Hr2 Hts2 Htr2 Hc2]
    · isplitl [Hs2]; · iexact Hs2
      isplitl [Hr2]; · iexact Hr2
      isplitl [Hts2 Htr2]
      · isplitl [Hts2]; · iexact Hts2
        iexact Htr2
      iexact Hc2
    · isplitl [Hs3]; · iexact Hs3
      isplitl [Hr3]; · iexact Hr3
      isplitl [Hts3 Htr3]
      · isplitl [Hts3]; · iexact Hts3
        iexact Htr3
      iexact Hc3

/-- The output buffer in the three parts its rows are handed out in. -/
theorem out_parts (f : Buf (Elt F) ((c : Thread nD τ).loc cc0_stg1_0)) :
    (oPts c Finset.univ f : sProp 𝕄) ⊢ iprop(oPts c (own c) f ∗ oPts c (own (xp c)) f ∗ oPts c (own4 (yp c)) f) := by
  iintro H
  ihave H := (Entails.of_eq (congrArg (fun S => oPts c S f) (own4_union c).symm)) $$ H
  ihave H := (pointsTo_union (own4_disjoint c)).1 $$ H
  icases H with ⟨H4, Hy⟩
  ihave H4 := (Entails.of_eq (congrArg (fun S => oPts c S f) (own_union c).symm)) $$ H4
  ihave H4 := (pointsTo_union (own_disjoint c)).1 $$ H4
  icases H4 with ⟨Ho, Hx⟩
  isplitl [Ho]; · iexact Ho
  isplitl [Hx]; · iexact Hx
  iexact Hy

/-! ## The handshake -/

theorem wp_sig (n e : Dev nD) (hn : n = e) (d : Fin 3) (O : CellTallies nD τ sig Unit) (W : Waits sig Unit) {Q : PUnit → sProp 𝕄} {k : P (F := F)} :
    iprop(records m K ∗ owes (c : Thread nD τ) (O + tallyAt (barCell e) () 1) W ∗ dutyTok ER (barCell e) 0 d ∗ barPay e d)
      ⊢ iprop((owes (c : Thread nD τ) O W -∗ wp frame (wpE (defs₀ (F := F)) 𝒱₀ (c : Thread nD τ) none) Set.univ k Q)
          -∗ wp frame (wpE (defs₀ (F := F)) 𝒱₀ (c : Thread nD τ) none) Set.univ (semSignalWord n barS 1#32 >>= fun _ => k) Q) := by
  subst hn
  simp only [semSignalWord, Prog.lift, Prog.bind_op, Prog.bind_ret, Prog.pure_eq_ret]
  iintro ⟨#HR, HO, Ht, Hp⟩ Hk
  iapply (Rounds.wp_signal 𝒱₀ ER (Rd m) (c : Thread nD τ) none (dst := (n : Thread nD τ)) (κ := K (n, 0))
      (d := d) (by rw [duties_bar]; exact Finset.mem_univ _) ((amount_bar m n d).trans (by decide)) () O rfl)
    $$ [HO Ht Hp]
  · isplitr; · iapply (inv_bar m K n); iexact HR
    isplitl [HO]; · iexact HO
    isplitl [Ht]; · iexact Ht
    isplitl [Hp]; · rw [payload_bar]; iexact Hp
    iapply (reach_bar m K n); iexact HR
  iexact Hk

theorem wp_barrier (W : Waits sig Unit) {Q : PUnit → sProp 𝕄} {k : P (F := F)} :
    iprop(records m K ∗ levAts L lv ∗ (atPos ER (barCell c) 0 ∅ 0 ∗ cred (tallyAt (barCell c) () 3)) ∗ owes (c : Thread nD τ) (Or0 c) W)
      ⊢ iprop(((barPay c 0 ∗ barPay c 1 ∗ barPay c 2) ∗ (∃ W, owes (c : Thread nD τ) (Or0 c) W) ∗ semVal (barCell c) 0
            -∗ wp frame (wpE (defs₀ (F := F)) 𝒱₀ (c : Thread nD τ) none) Set.univ k Q)
          -∗ wp frame (wpE (defs₀ (F := F)) 𝒱₀ (c : Thread nD τ) none) Set.univ (semWaitWord barS 3#32 >>= fun _ => k) Q) := by
  simp only [semWaitWord, Prog.lift, Prog.bind_op, Prog.bind_ret, Prog.pure_eq_ret]
  iintro ⟨#HR, #Hlv, ⟨Hat, Hc⟩, HO⟩ Hk
  iapply (Rounds.wp_wait_rest_token 𝒱₀ ER (Rd m) (c : Thread nD τ) none (κ := K (c, 0))
      (wpE_semWait_eq 𝒱₀ (c : Thread nD τ) none Set.univ) (Set.mem_univ _) () (O := Or0 c) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait (F := F) c (.reg barS) 1 (lv_bar c) (Or0 c) (above_Or0 (by decide) c)); iexact Hlv
    iexact Hat
  iintro ⟨HO, Hat, -, Hpay⟩
  ihave Hp := (Entails.of_eq (rest_bar m c)) $$ Hpay
  imod (Rounds.cell_close ER (Rd m) (Set.mem_univ (K (c, 0))) (fun h => h) (R := 0 + 1) (duties_later m (barCell c))) $$ [Hat] with Hz
  · isplitr; · iapply (inv_bar m K c); iexact HR
    iexact Hat
  iapply Hk
  isplitl [Hp]; · iexact Hp
  isplitl [HO]; · iexists _; iexact HO
  iexact Hz

/-! ## The whole body -/

/-- Between the handshake and the end. -/
theorem wp_after {Q : PUnit → sProp 𝕄} :
    iprop(records m K ∗ levAts L lv ∗ kv m c ∗ slotSems c
        ∗ ((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f) ∗ (∃ f, sPts c f))
        ∗ (∃ f, oPts c (own c) f) ∗ (((c : Thread nD τ).loc cc0_stg0_0) ↦{fullShare} XQ m c)
        ∗ (barPay c 0 ∗ barPay c 1 ∗ barPay c 2) ∗ (∃ W, owes (c : Thread nD τ) (Or0 c) W)
        ∗ (ends c 0 ∗ ends c 1) ∗ (ends c 2 ∗ ends c 3))
      ⊢ iprop((scratch c ∗ kv m c ∗ slotSems c ∗ (ended c 0 ∗ ended c 1 ∗ ended c 2 ∗ ended c 3)
            ∗ (((c : Thread nD τ).loc cc0_stg0_0) ↦{fullShare} XQ m c) ∗ oPts c Finset.univ (FIN m c) ∗ (∃ W, owes (c : Thread nD τ) 0 W) -∗ Q ⟨⟩)
          -∗ wp frame (wpE (defs₀ (F := F)) 𝒱₀ (c : Thread nD τ) none) Set.univ
            (afterBarrier qM kH vH oM kM vM sM rM tM (Memref.isWhole_whole _) (Memref.isWhole_whole _) (Memref.isWhole_whole _)
              cc0_scratch5 cc0_scratch6 cc0_scratch7 cc0_scratch8 c) Q) := by
  unfold kv slotSems scratch afterBarrier
  iintro ⟨#HR, #Hlv, ⟨HK, HV⟩, ⟨Hk0, Hk1, Hv0, Hv1⟩, ⟨H0, H1, ⟨%fs, Hs⟩⟩, ⟨%fo, Ho⟩, Hq, ⟨Hp0, Hp1, Hp2⟩, HO, ⟨HE0, HE1⟩, ⟨HE2, HE3⟩⟩ Hk
  ihave HIK := (idles_intro c kH kM cc0_scratch5 (KA m c) (View.set_whole _) (slotsK_union c) (slotsK_disjoint c)) $$ [HK H0 Hk0 Hk1]
  · isplitl [HK]; · iexact HK
    isplitl [H0]; · iexact H0
    isplitl [Hk0]; · iexact Hk0
    iexact Hk1
  ihave HIV := (idles_intro c vH vM cc0_scratch6 (VA m c) (View.set_whole _) (slotsV_union c) (slotsV_disjoint c)) $$ [HV H1 Hv0 Hv1]
  · isplitl [HV]; · iexact HV
    isplitl [H1]; · iexact H1
    isplitl [Hv0]; · iexact Hv0
    iexact Hv1
  icases HIK with ⟨HIK0, HIK1⟩
  icases HIV with ⟨HIV0, HIV1⟩
  iapply (wp_fetch m c (i := 0) _) $$ [HIK0 HIV0]
  · unfold idleK idleV
    isplitl [HIK0]; · iexact HIK0
    iexact HIV0
  iintro HF
  ihave HIK1 := (Entails.of_eq (idle_congr kH kM cc0_scratch5 c (KA m c) (i := 1) (j := 31) (by decide))) $$ HIK1
  ihave HIV1 := (Entails.of_eq (idle_congr vH vM cc0_scratch6 c (VA m c) (i := 1) (j := 31) (by decide))) $$ HIV1
  iapply (wp_rounds m c 31 _) $$ [HF HIK1 HIV1 Hs Ho Hq HO]
  · isplitr; · iexact Hlv
    isplitl [HF]; · iexact HF
    isplitl [HIK1 HIV1]
    · unfold idleK idleV
      isplitl [HIK1]; · iexact HIK1
      iexact HIV1
    unfold St
    isplitl [Ho]
    · iexists fo
      isplitr; · (ipureintro; exact agreeO_zero m c fo)
      iexact Ho
    isplitl [Hs]
    · iexists fs
      isplitr; · (ipureintro; exact agreeM_zero m c fs)
      iexact Hs
    isplitl [Hq]; · iexact Hq
    iexact HO
  unfold St idleK idleV
  iintro ⟨⟨HIK0, HIV0⟩, ⟨HIK1, HIV1⟩, ⟨%fo', %ho, Ho⟩, ⟨%fs', %hs, Hs⟩, Hq, ⟨%W, HO⟩⟩
  have es := agreeM_all m c fs' hs
  subst es
  ihave Ho := (Entails.of_eq (pointsTo_congr (agreeO_all m c fo' ho))) $$ Ho
  unfold barPay
  iapply (wp_swap m K c W) $$ [Ho Hs Hp0 HO HE0 HE1]
  · isplitr; · iexact HR
    isplitr; · iexact Hlv
    isplitl [Ho Hs]
    · isplitl [Ho]; · iexact Ho
      iexact Hs
    isplitl [Hp0]; · iexact Hp0
    isplitl [HO]; · iexact HO
    isplitl [HE0]; · iexact HE0
    iexact HE1
  iintro ⟨Hos, Hrt, ⟨%W', HO⟩, HD0, HD1⟩
  iapply (wp_merge m c) $$ [Hos Hrt]
  · isplitl [Hos]; · iexact Hos
    iexact Hrt
  iintro ⟨Ho, Hs, Hr, Ht⟩
  iapply (wp_gather m K c W') $$ [Ho Hp1 Hp2 HO HE2 HE3]
  · isplitr; · iexact HR
    isplitr; · iexact Hlv
    isplitl [Ho]; · iexact Ho
    isplitl [Hp1 Hp2]
    · isplitl [Hp1]; · iexact Hp1
      iexact Hp2
    isplitl [HO]; · iexact HO
    isplitl [HE2]; · iexact HE2
    iexact HE3
  iintro ⟨Ho, HO, HD2, HD3⟩
  ihave HXK := (idles_elim c kH kM cc0_scratch5 (KA m c) (View.set_whole _) (slotsK_union c) (slotsK_disjoint c)) $$ [HIK0 HIK1]
  · isplitl [HIK0]; · iexact HIK0
    iexact HIK1
  ihave HXV := (idles_elim c vH vM cc0_scratch6 (VA m c) (View.set_whole _) (slotsV_union c) (slotsV_disjoint c)) $$ [HIV0 HIV1]
  · isplitl [HIV0]; · iexact HIV0
    iexact HIV1
  icases HXK with ⟨HK, H0, Hk0, Hk1⟩
  icases HXV with ⟨HV, H1, Hv0, Hv1⟩
  iapply Hk
  isplitl [H0 H1 Hs Hr Ht]
  · isplitl [H0]; · iexact H0
    isplitl [H1]; · iexact H1
    isplitl [Hs]; · iexists _; iexact Hs
    isplitl [Hr]; · iexact Hr
    iexact Ht
  isplitl [HK HV]
  · isplitl [HK]; · iexact HK
    iexact HV
  isplitl [Hk0 Hk1 Hv0 Hv1]
  · isplitl [Hk0]; · iexact Hk0
    isplitl [Hk1]; · iexact Hk1
    isplitl [Hv0]; · iexact Hv0
    iexact Hv1
  isplitl [HD0 HD1 HD2 HD3]
  · isplitl [HD0]; · iexact HD0
    isplitl [HD1]; · iexact HD1
    isplitl [HD2]; · iexact HD2
    iexact HD3
  isplitl [Hq]; · iexact Hq
  isplitl [Ho]; · iexact Ho
  iexact HO

/-- The body from the start. -/
theorem wp_body (W : Waits sig Unit) {Q : PUnit → sProp 𝕄} :
    iprop(Φ₀ m c ∗ owes (c : Thread nD τ) (O₀ c) W ∗ (((c : Thread nD τ).loc cc0_stg0_0) ↦{fullShare} XQ m c) ∗ (∃ f, oPts c Finset.univ f))
      ⊢ iprop((Φ₁ m c ∗ (∃ W, owes (c : Thread nD τ) 0 W)
            ∗ (((c : Thread nD τ).loc cc0_stg0_0) ↦{fullShare} XQ m c) ∗ oPts c Finset.univ (FIN m c) -∗ Q ⟨⟩)
          -∗ wp frame (wpE (defs₀ (F := F)) 𝒱₀ (c : Thread nD τ) none) Set.univ
            (body (F := F) qM kH vH oM kM vM sM rM tM (Memref.isWhole_whole _) (Memref.isWhole_whole _) (Memref.isWhole_whole _)
              cc0_scratch5 cc0_scratch6 cc0_scratch7 cc0_scratch8) Q) := by
  unfold body Φ₀ start
  rw [wp_deviceId]
  iintro ⟨⟨⟨⟨⟨%K, Hg⟩, HS⟩, Hcr, #Hlv, Hkv⟩, Hscr⟩, HO, Hq, ⟨%fo, Ho⟩⟩ Hk
  ihave HG := (ghost_ends m K c) $$ [Hg Hcr]
  · isplitl [Hg]; · iexact Hg
    iexact Hcr
  icases HG with ⟨#HR, Hbar, ⟨Hbz, Hbx, Hby⟩, HE01, HE23⟩
  ihave Ho := (out_parts c fo) $$ Ho
  icases Ho with ⟨Ho, Hox, Hoy⟩
  unfold scratch
  icases Hscr with ⟨H0, H1, Hs, Hr, Ht⟩
  iapply (wp_sig m K c _ (zp c) (dev1_eq c) 0 (Ob1 c) W) $$ [HO Hbz Hr Ht]
  · isplitr; · iexact HR
    isplitl [HO]; · iexact HO
    isplitl [Hbz]; · iexact Hbz
    unfold barPay; rw [zp_zp]
    isplitl [Hr]; · iexact Hr
    iexact Ht
  iintro HO
  iapply (wp_sig m K c _ (xp c) (dev2_eq c) 1 (Ob2 c) W) $$ [HO Hbx Hox]
  · isplitr; · iexact HR
    isplitl [HO]; · iexact HO
    isplitl [Hbx]; · iexact Hbx
    unfold barPay; rw [xp_xp]
    iexists fo; iexact Hox
  iintro HO
  iapply (wp_sig m K c _ (yp c) (dev3_eq c) 2 (Or0 c) W) $$ [HO Hby Hoy]
  · isplitr; · iexact HR
    isplitl [HO]; · iexact HO
    isplitl [Hby]; · iexact Hby
    unfold barPay; rw [yp_yp]
    iexists fo; iexact Hoy
  iintro HO
  iapply (wp_barrier m K c W) $$ [Hbar HO]
  · isplitr; · iexact HR
    isplitr; · iexact Hlv
    isplitl [Hbar]; · iexact Hbar
    iexact HO
  iintro ⟨Hpay, HO, Hz⟩
  iapply (wp_after m K c) $$ [Hkv HS H0 H1 Hs Ho Hq Hpay HO HE01 HE23]
  · isplitr; · iexact HR
    isplitr; · iexact Hlv
    isplitl [Hkv]; · iexact Hkv
    isplitl [HS]; · iexact HS
    isplitl [H0 H1 Hs]
    · isplitl [H0]; · iexact H0
      isplitl [H1]; · iexact H1
      iexact Hs
    isplitl [Ho]; · iexists fo; iexact Ho
    isplitl [Hq]; · iexact Hq
    isplitl [Hpay]; · iexact Hpay
    isplitl [HO]; · iexact HO
    isplitl [HE01]; · iexact HE01
    iexact HE23
  iintro ⟨Hscr, Hkv, HS, HD, Hq, Ho, HO⟩
  iapply Hk
  unfold Φ₁
  isplitl [Hscr Hkv HS HD Hz]
  · isplitl [Hscr]; · iexact Hscr
    isplitl [Hkv]; · iexact Hkv
    isplitl [HS]; · iexact HS
    isplitl [HD]; · iexact HD
    iexact Hz
  isplitl [HO]; · iexact HO
  isplitl [Hq]; · iexact Hq
  iexact Ho

def bodyPre : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost : sProp 𝕄 :=
  iprop(Φ₁ m c ∗ (dats m ρ 0 c).owesAt () t₀.succ ∗ stg c cc0_stg0_0 (XQ m c) ∗ stg c cc0_stg1_0 (FIN m c))

/-- The pipeline's obligation on the body of device `c`. -/
theorem body_obligation : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body qM (Memref.isWhole_whole _) kH (Memref.isWhole_whole _) vH (Memref.isWhole_whole _) oM (Memref.isWhole_whole _)
      kM (Memref.isWhole_whole _) vM (Memref.isWhole_whole _) sM (Memref.isWhole_whole _) rM (Memref.isWhole_whole _) tM (Memref.isWhole_whole _)
      cc0_scratch5 cc0_scratch6 cc0_scratch7 cc0_scratch8) (fun _ => bodyPost m ρ c)
  rw [cc0_body_eq]
  unfold bodyPre
  iintro ⟨HΦ, HO, ⟨%d0, ⟨%g0, %hg0, Hq⟩⟩, ⟨%d1, ⟨%g1, %hg1, Ho⟩⟩⟩
  have hx : g0 = XQ m c := by rw [hg0]; unfold Dat.before; rw [if_pos (fetch_0 t₀)]; rfl
  subst hx
  unfold Dat.owesAt Pipeline.owesWithin
  icases HO with ⟨%W, %hW, HO⟩
  iapply (wp_body m c W) $$ [HΦ HO Hq Ho]
  · isplitl [HΦ]; · iexact HΦ
    isplitl [HO]; · iexact HO
    isplitl [Hq]; · iexact Hq
    iexists g1; iexact Ho
  iintro ⟨HΦ, ⟨%W', HO⟩, Hq, Ho⟩
  unfold bodyPost Dat.owesAt Pipeline.owesWithin
  isplitl [HΦ]; · iexact HΦ
  isplitl [HO]
  · iexists W'
    isplitr; · (ipureintro; exact fun _ _ => Or.inl trivial)
    iexact HO
  isplitl [Hq]
  · iexists _; isplitr; · (ipureintro; rfl)
    iexact Hq
  iexists _; isplitr; · (ipureintro; rfl)
  iexact Ho

end Cert.KernelIdeal.Own

end
-- ==== Proof.Launch.lean ====
module

public import proofs.«01_k».proof.Proof.Body
public import Idealize.ShloMosaic.Lib.Pipeline.Value
public import Idealize.ShloMosaic.Lib.Pipeline.CollectiveSegs

/-!
# The launch

How the semaphores, tokens and credits of the eight devices are dealt at the start, and the run of the whole mesh: it
ends, the arguments are unchanged, every device's result is the merged output, and every counter reads zero.
-/

@[expose] public section

set_option maxRecDepth 16384

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and their tokens -/

/-- The kernel's own semaphores. -/
def osem : Fin 12 → SemLoc sig := fun
  | 0 => .dma (sS 0) | 1 => .dma (sS 1) | 2 => .dma (sS 2) | 3 => .dma (sS 3)
  | 4 => .dma (rS 0) | 5 => .dma (rS 1) | 6 => .dma (rS 2) | 7 => .dma (rS 3)
  | 8 => .dma (kS 0) | 9 => .dma (kS 1) | 10 => .dma (vS 0) | 11 => .dma (vS 1)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The cells of the protocol. -/
def allCells : Finset (GSem nD τ sig) := Finset.univ.map ⟨kcell, kcell_injective⟩

/-- Which cell, and which duty of it, each of a device's eleven tokens is for. -/
def tokSlot : Fin 11 → Fin 9 × Fin 3 := fun
  | 0 => (0, 0) | 1 => (0, 1) | 2 => (0, 2) | 3 => (1, 0) | 4 => (2, 0) | 5 => (3, 0) | 6 => (4, 0)
  | 7 => (5, 0) | 8 => (6, 0) | 9 => (7, 0) | 10 => (8, 0)
theorem tokSlot_injective : Function.Injective tokSlot := by decide
def tokOf (cj : Dev nD × Fin 11) : GSem nD τ sig × ℕ × Fin 3 := (kcell (cj.1, (tokSlot cj.2).1), 0, (tokSlot cj.2).2)
theorem tokOf_injective : Function.Injective tokOf := by
  rintro ⟨c, j⟩ ⟨c', j'⟩ h
  have h1 : (c, (tokSlot j).1) = (c', (tokSlot j').1) := kcell_injective (congrArg Prod.fst h)
  have h2 : (tokSlot j).2 = (tokSlot j').2 := congrArg (fun x => x.2.2) h
  have h3 : j = j' := tokSlot_injective (Prod.ext (congrArg Prod.snd h1) h2)
  have h4 : c = c' := congrArg Prod.fst h1
  rw [h4, h3]
def allToks : Finset (GSem nD τ sig × ℕ × Fin 3) := Finset.univ.map ⟨tokOf, tokOf_injective⟩

def u₀ : UU := (initOf (Pipeline.cells cfgs Gen.cellOf_inj) (Pipeline.launchToks cfgs Gen.cellOf_inj), (initOf allCells allToks, 1))

/-- The tokens of the duties of device `c`'s own cells. -/
def toks (c : Dev nD) : sProp 𝕄 :=
  iprop((dutyTok ER (barCell c) 0 0 ∗ dutyTok ER (barCell c) 0 1 ∗ dutyTok ER (barCell c) 0 2)
    ∗ (bigSep Finset.univ fun j : Fin 4 => dutyTok ER (sendCell c j) 0 0)
    ∗ (bigSep Finset.univ fun j : Fin 4 => dutyTok ER (recvCell c j) 0 0))

theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem toks_intro (c : Dev nD) : (bigSep Finset.univ fun j : Fin 11 => (dutyTok ER (tokOf (c, j)).1 (tokOf (c, j)).2.1 (tokOf (c, j)).2.2 : sProp 𝕄)) ⊢ toks c := by
  unfold toks
  rw [bigSep_fin11, bigSep_fin4, bigSep_fin4]
  iintro ⟨H0, H1, H2, H3, H4, H5, H6, H7, H8, H9, H10⟩
  isplitl [H0 H1 H2]
  · isplitl [H0]; · iexact H0
    isplitl [H1]; · iexact H1
    iexact H2
  isplitl [H3 H4 H5 H6]
  · isplitl [H3]; · iexact H3
    isplitl [H4]; · iexact H4
    isplitl [H5]; · iexact H5
    iexact H6
  isplitl [H7]; · iexact H7
  isplitl [H8]; · iexact H8
  isplitl [H9]; · iexact H9
  iexact H10

/-- What the launch deals device `c`, -/
def G (c : Dev nD) : sProp 𝕄 :=
  iprop((bigSep Finset.univ fun k : Fin 9 => roundState ER (Rd m) (kcell (c, k)) 0)
    ∗ ((bigSep Finset.univ fun k : Fin 9 => atPos ER (kcell (c, k)) 0 ∅ 0) ∗ bigSep Finset.univ fun k : Fin 9 => reached ER (kcell (c, k)) 0) ∗ toks c)
/-- and what it has once every cell's invariant is set up. -/
def G' (c : Dev nD) : sProp 𝕄 := iprop((∃ K, ghost m K c) ∗ slotSems c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_intro c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat']; · iexact Hat'
    iexact Hr'
  iexact Htok'

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0 ∗ slotSems c) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 9 => semVal (kcell (c, k)) 0) ∗ slotSems c) : sProp 𝕄) := by
  rw [ownSems0_eq, unscopedSems0_eq, bigSep_fin9]
  iintro ⟨⟨S0, S1, S2, S3, R0, R1, R2, R3, HS⟩, HB⟩
  isplitr [HS]
  · isplitl [HB]; · iexact HB
    isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ ((bigSep Finset.univ fun k : Fin 9 => reached ER (kcell (c, k)) 0)
          ∗ ((bigSep Finset.univ fun k : Fin 9 => atPos ER (kcell (c, k)) 0 ∅ 0) ∗ toks c ∗ slotSems c))) := by
  unfold G
  iintro ⟨Hos, Hus, Hst, ⟨Hat, Hre⟩, Htok⟩
  ihave Hv := (sems0_eq (F := F) c) $$ [Hos Hus]
  · isplitl [Hos]; · iexact Hos
    iexact Hus
  icases Hv with ⟨Hv, HS⟩
  imod (show iprop((bigSep Finset.univ fun k : Fin 9 => semVal (kcell (c, k)) 0) ∗ bigSep Finset.univ fun k : Fin 9 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hre]; · iexact Hre
  isplitl [Hat]; · iexact Hat
  isplitl [Htok]; · iexact Htok
  iexact HS

/-- The tokens device `c` pays with. -/
def payToks (c : Dev nD) : sProp 𝕄 :=
  iprop((dutyTok ER (barCell (zp c)) 0 0 ∗ dutyTok ER (barCell (xp c)) 0 1 ∗ dutyTok ER (barCell (yp c)) 0 2)
    ∗ (bigSep Finset.univ fun j : Fin 4 => dutyTok ER (sendCell c j) 0 0)
    ∗ (bigSep Finset.univ fun j : Fin 4 => dutyTok ER (recvCell (peer c j) j) 0 0))

def zpE : Dev nD ≃ Dev nD := ⟨zp, zp, zp_zp, zp_zp⟩
def xpE : Dev nD ≃ Dev nD := ⟨xp, xp, xp_xp, xp_xp⟩
def ypE : Dev nD ≃ Dev nD := ⟨yp, yp, yp_yp, yp_yp⟩

theorem dealt (e : Dev nD ≃ Dev nD) (Φ : Dev nD → sProp 𝕄) : bigSep Finset.univ Φ ⊢ bigSep Finset.univ fun c => Φ (e c) :=
  Entails.of_eq (bigSep_univ_equiv e Φ)

/-- The tokens of the own cells, handed to whoever pays with them. -/
theorem toks_around : (bigSep Finset.univ fun c : Dev nD => (toks c : sProp 𝕄)) ⊢ bigSep Finset.univ fun c : Dev nD => payToks c := by
  unfold toks payToks
  simp only [bigSep_fin4]
  simp only [bigSep_sep']
  iintro ⟨⟨B0, B1, B2⟩, HS, R0, R1, R2, R3⟩
  isplitl [B0 B1 B2]
  · isplitl [B0]; · iapply (dealt zpE fun c : Dev nD => (dutyTok ER (barCell c) 0 0 : sProp 𝕄)); iexact B0
    isplitl [B1]; · iapply (dealt xpE fun c : Dev nD => (dutyTok ER (barCell c) 0 1 : sProp 𝕄)); iexact B1
    iapply (dealt ypE fun c : Dev nD => (dutyTok ER (barCell c) 0 2 : sProp 𝕄)); iexact B2
  isplitl [HS]; · iexact HS
  isplitl [R0]; · iapply (dealt zpE fun c : Dev nD => (dutyTok ER (recvCell c 0) 0 0 : sProp 𝕄)); iexact R0
  isplitl [R1]; · iapply (dealt zpE fun c : Dev nD => (dutyTok ER (recvCell c 1) 0 0 : sProp 𝕄)); iexact R1
  isplitl [R2]; · iapply (dealt xpE fun c : Dev nD => (dutyTok ER (recvCell c 2) 0 0 : sProp 𝕄)); iexact R2
  iapply (dealt ypE fun c : Dev nD => (dutyTok ER (recvCell c 3) 0 0 : sProp 𝕄)); iexact R3

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 9 → ℕ) (c : Dev nD) :
    iprop(records m K ∗ ((bigSep Finset.univ fun k : Fin 9 => atPos ER (kcell (c, k)) 0 ∅ 0) ∗ payToks c ∗ slotSems c)) ⊢ G' m c := by
  unfold G' ghost payToks
  iintro ⟨#HR, Hat, Htok, HS⟩
  isplitr [HS]
  · iexists K
    isplitr; · iexact HR
    isplitl [Hat]; · iexact Hat
    iexact Htok
  iexact HS

theorem regroup :
    (bigSep Finset.univ fun c : Dev nD => iprop((bigSep Finset.univ fun k => iprop(∃ κ : ℕ, cellInv ER (Rd m) κ (kcell (c, k))))
          ∗ ((bigSep Finset.univ fun k : Fin 9 => reached ER (kcell (c, k)) 0)
          ∗ ((bigSep Finset.univ fun k : Fin 9 => atPos ER (kcell (c, k)) 0 ∅ 0) ∗ toks c ∗ slotSems c))) : sProp 𝕄)
      ⊢ bigSep Finset.univ (G' m) := by
  rw [bigSep_sep', bigSep_sep', bigSep_sep', bigSep_sep', ← bigSep_univ_prod (fun ck : Dev nD × Fin 9 => iprop(∃ κ : ℕ, cellInv ER (Rd m) κ (kcell ck))),
    ← bigSep_univ_prod (fun ck : Dev nD × Fin 9 => (reached ER (kcell ck) 0 : sProp 𝕄))]
  iintro ⟨HI, #HR, Hat, Htok, HS⟩
  ihave HK := (BI.bigSep_exists_pi Finset.univ (fun (ck : Dev nD × Fin 9) (κ : ℕ) => (cellInv ER (Rd m) κ (kcell ck) : sProp 𝕄))) $$ HI
  icases HK with ⟨%K, #HI⟩
  ihave Htk := (toks_around (F := F)) $$ Htok
  iapply (with_persistent (R := records m K) fun c _ => ghost_intro m K c)
  isplitr
  · unfold records; rw [bigSep_sep']
    isplitl; · iexact HI
    iexact HR
  rw [bigSep_sep', bigSep_sep']
  isplitl [Hat]; · iexact Hat
  isplitl [Htk]; · iexact Htk
  iexact HS

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What is owed a cell of device `c` by whoever owes cell `k` of its partner under an involution `e`. -/
theorem owed_at (e : Dev nD → Dev nD) (he : ∀ c, e (e c) = c) (k k' : Fin 9) (n : ℕ) (d c : Dev nD) :
    (tallyAt (kcell (e d, k)) () n : CellTallies nD τ sig Unit) (kcell (c, k')) () = if k' = k then (if d = e c then n else 0) else 0 := by
  rw [tallyAt_apply]
  by_cases hk : k' = k
  · subst hk
    rw [if_pos rfl]
    by_cases hd : d = e c
    · subst hd; rw [he, if_pos ⟨rfl, rfl⟩, if_pos rfl]
    · rw [if_neg (fun h => hd (by have := congrArg Prod.fst (kcell_injective h.1); exact (he d).symm.trans (congrArg e this.symm))), if_neg hd]
  · rw [if_neg (fun h => hk (congrArg Prod.snd (kcell_injective h.1))), if_neg hk]

theorem O₀_eq (d : Dev nD) : O₀ d = 0 + tallyAt (kcell (yp d, 8)) () (N 3) + tallyAt (kcell (xp d, 7)) () (N 2) + tallyAt (kcell (zp d, 6)) () (N 1)
    + tallyAt (kcell (zp d, 5)) () (N 0) + tallyAt (kcell (yp d, 0)) () 1 + tallyAt (kcell (xp d, 0)) () 1 + tallyAt (kcell (zp d, 0)) () 1 := rfl

theorem owed_cell (d c : Dev nD) (k : Fin 9) : O₀ d (kcell (c, k)) () =
    (if k = 8 then (if d = yp c then N 3 else 0) else 0) + (if k = 7 then (if d = xp c then N 2 else 0) else 0)
      + (if k = 6 then (if d = zp c then N 1 else 0) else 0) + (if k = 5 then (if d = zp c then N 0 else 0) else 0)
      + (if k = 0 then (if d = yp c then 1 else 0) else 0) + (if k = 0 then (if d = xp c then 1 else 0) else 0)
      + (if k = 0 then (if d = zp c then 1 else 0) else 0) := by
  rw [O₀_eq]
  simp only [Pi.add_apply, Finsupp.add_apply, owed_at yp yp_yp, owed_at xp xp_xp, owed_at zp zp_zp, Pi.zero_apply, Finsupp.zero_apply, Nat.zero_add]

theorem launch_cell (c : Dev nD) (k : Fin 9) (n : ℕ) (h : ∑ d : Dev nD, O₀ d (kcell (c, k)) () = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

theorem one_of (n : ℕ) (a : Dev nD) : ∑ d : Dev nD, (if d = a then n else 0) = n := by
  rw [Finset.sum_ite_eq' Finset.univ a fun _ => n, if_pos (Finset.mem_univ _)]

theorem launch_bar (c : Dev nD) : tallyOn (kcell (c, 0)) (launchCredit (Pipeline.owing O₀) 0 (kcell (c, 0))) = (tallyAt (kcell (c, 0)) () 3 : CellTallies nD τ sig Unit) :=
  launch_cell c 0 3 (by simp [owed_cell, Finset.sum_add_distrib])
theorem launch_recv (c : Dev nD) (j : Fin 4) :
    tallyOn (kcell (c, kr j)) (launchCredit (Pipeline.owing O₀) 0 (kcell (c, kr j))) = (tallyAt (kcell (c, kr j)) () (N j) : CellTallies nD τ sig Unit) := by
  refine launch_cell c (kr j) (N j) ?_
  match j with
  | 0 => simp [owed_cell, kr]
  | 1 => simp [owed_cell, kr]
  | 2 => simp [owed_cell, kr]
  | 3 => simp [owed_cell, kr]

theorem creds_intro (c : Dev nD) : (Pipeline.launchCred O₀ c : sProp 𝕄) ⊢ creds c := by
  have hinj : Function.Injective fun j : Fin 4 => (SemLoc.dma (rS j) : SemLoc sig) := by decide
  have hsub : (Finset.univ.map ⟨fun j : Fin 4 => (SemLoc.dma (rS j) : SemLoc sig), hinj⟩) ⊆ Finset.univ.erase (SemLoc.reg barS) := fun s hs => by
    obtain ⟨j, -, rfl⟩ := Finset.mem_map.mp hs
    exact Finset.mem_erase.mpr ⟨(fun h => nomatch h), Finset.mem_univ _⟩
  have hr (j : Fin 4) : (cred (tallyOn (recvCell c j) (launchCredit (Pipeline.owing O₀) 0 (recvCell c j))) : sProp 𝕄) = cred (tallyAt (recvCell c j) () (N j)) := by
    have h := launch_recv c j
    rw [kcell_r] at h
    exact congrArg cred h
  unfold Pipeline.launchCred creds
  rw [bigSep_univ_at _ (SemLoc.reg barS)]
  iintro ⟨H0, H⟩
  isplitl [H0]
  · iapply (Entails.of_eq (congrArg (fun x => (cred x : sProp 𝕄)) (launch_bar c))); iexact H0
  ihave H := (show (bigSep (Finset.univ.erase (SemLoc.reg barS)) fun sm : SemLoc sig => (cred (tallyOn ((c : Thread nD τ), sm) (launchCredit (Pipeline.owing O₀) 0 ((c : Thread nD τ), sm))) : sProp 𝕄))
      ⊢ bigSep (Finset.univ.map ⟨fun j : Fin 4 => (SemLoc.dma (rS j) : SemLoc sig), hinj⟩) _ from bigSep_subset hsub) $$ H
  ihave H := (Entails.of_eq (bigSep_map (s := Finset.univ) ⟨fun j : Fin 4 => (SemLoc.dma (rS j) : SemLoc sig), hinj⟩)) $$ H
  iapply (Entails.of_eq (bigSep_congr (s := Finset.univ) fun (j : Fin 4) _ => hr j))
  iexact H

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, Gen.unscopedRest0_eq]
  iintro ⟨Hkv, Hlev, Hcr, -, HG⟩
  ihave Hc := (creds_intro (F := F) c) $$ Hcr
  imodintro
  unfold start G' kv
  isplitl
  · isplitl [HG]; · iexact HG
    isplitl [Hc]; · iexact Hc
    isplitl [Hlev]; · iexact Hlev
    iexact Hkv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, Gen.scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ kv m c) ∗ Pipeline.ownSems0 osem c ∗ Pipeline.scopedRest cfg0.spec c) := by
  rw [show (dats m ρ 0 c).Φ (Fin.last cfg0.N) = Φ₁ m c from rfl, Gen.scopedRest0_eq, ownSems0_eq, unscopedSems0_eq]
  unfold Φ₁ scratch ended
  iintro ⟨Hr, Hkv, HS, ⟨⟨S0, R0⟩, ⟨S1, R1⟩, ⟨S2, R2⟩, ⟨S3, R3⟩⟩, HB⟩
  isplitl [HB Hkv]
  · isplitl [HB]; · iexact HB
    iexact Hkv
  isplitr [Hr]
  · isplitl [S0]; · iexact S0
    isplitl [S1]; · iexact S1
    isplitl [S2]; · iexact S2
    isplitl [S3]; · iexact S3
    isplitl [R0]; · iexact R0
    isplitl [R1]; · iexact R1
    isplitl [R2]; · iexact R2
    isplitl [R3]; · iexact R3
    iexact HS
  iexact Hr

theorem waits (c : Dev nD) : (levAts L lv : sProp 𝕄) ⊢ Pipeline.cellsWaits cfgs (dats m ρ) () 0 c :=
  Pipeline.cellsWaits_intro cfgs (dats m ρ) () 0 c fun w s t => by
    have hq : ∀ (w : Fin 2) (s : Fin (spec0 w).nbuf), dec ((spec0 w).sem s) = none := by decide
    refine mayWait c _ 0 (lv_none c _ (hq w s)) _ ?_
    rcases t with ⟨_ | _, ht⟩
    · exact above_O₀ c
    · exact above_zero 0

/-! ## The run -/

/-- What every device's memory holds at the end. -/
def Final (mem : (ℓ : Loc nD τ sig) → Buf (Elt F) ℓ) : Prop := ∀ c : Dev nD,
  mem ((c : Thread nD τ).loc main_v1) = FIN m c ∧ mem ((c : Thread nD τ).loc main_arg0) = m ((c : Thread nD τ).loc main_arg0)
    ∧ mem ((c : Thread nD τ).loc main_arg1) = m ((c : Thread nD τ).loc main_arg1) ∧ mem ((c : Thread nD τ).loc main_arg2) = m ((c : Thread nD τ).loc main_arg2)

/-- A window's one block is the whole array, -/
theorem out_emb (i : S8x8x16x128.Idx) : (win0_1.blk t₀).view.emb i = i := by
  funext a
  refine Fin.ext ?_
  show (0 * _ + 1 * (i a).val : ℕ) = (i a).val
  rw [Nat.zero_mul, Nat.zero_add, Nat.one_mul]
theorem out_blk (X : Buf (Elt F) (win0_1.arr.view.loc ((0 : Dev nD) : Thread nD τ))) : (win0_1.blk t₀).view.read (Elt F) X = X := by
  funext i
  rw [View.read_apply, out_emb]; rfl
theorem in_emb (i : S8x8x16x128.Idx) : (win0_0.blk t₀).view.emb i = i := by
  funext a
  refine Fin.ext ?_
  show (0 * _ + 1 * (i a).val : ℕ) = (i a).val
  rw [Nat.zero_mul, Nat.zero_add, Nat.one_mul]
theorem XQ_eq (c : Dev nD) : XQ m c = m ((c : Thread nD τ).loc main_arg0) := by
  unfold XQ
  funext i
  rw [View.read_apply, show (win0_0.blk (0 : Fin 1)).view.emb i = i from in_emb i]; rfl
/-- so it ends holding what the body left. -/
theorem final_out (c : Dev nD) : (dats m ρ 0 c).arrAt (1 : Fin 2) cfg0.N = FIN m c := by
  refine (dats m ρ 0 c).arrAt_eq_of_cover (1 : Fin 2) (FIN m c) (fun t _ => ?_) fun i => ⟨t₀, by decide, ?_⟩
  · rw [fin_N t]
    show FIN m c = (win0_1.blk t₀).view.read (Elt F) (FIN m c)
    exact (out_blk (FIN m c)).symm
  · have h := (win0_1.blk t₀).view.emb_mem_set i
    rw [out_emb] at h
    exact h

theorem kv_read (c : Dev nD) (s' : Phys nD τ sig (Elt F)) :
    iprop(kv m c ∗ SI s') ⊢ (iprop(⌜s'.mem.mem ((c : Thread nD τ).loc main_arg1) = m ((c : Thread nD τ).loc main_arg1)
      ∧ s'.mem.mem ((c : Thread nD τ).loc main_arg2) = m ((c : Thread nD τ).loc main_arg2)⌝ ∗ SI s') : sProp 𝕄) := by
  have hk : (bigSep Finset.univ fun b : Fin 2 => ((((c : Thread nD τ).loc (![main_arg1, main_arg2] b)) ↦{fullShare} m ((c : Thread nD τ).loc (![main_arg1, main_arg2] b))) : sProp 𝕄)) = kv m c :=
    bigSep_univ_eq_bigSepL [0, 1] (by decide) (by decide) _
  rw [← hk]
  iintro H
  ihave H := (pointsTo_read_all Finset.univ (fun b : Fin 2 => (c : Thread nD τ).loc (![main_arg1, main_arg2] b)) (fun b => m ((c : Thread nD τ).loc (![main_arg1, main_arg2] b))) s') $$ H
  icases H with ⟨%h, HSI⟩
  isplitr
  · ipureintro; exact ⟨h 0 (Finset.mem_univ _), h 1 (Finset.mem_univ _)⟩
  iexact HSI

/-- From any memory with every counter at zero, the eight devices run to the end, and then the result of each is the
    merged output, the arguments are as they were, and every counter is at zero. -/
theorem run_main : θ_run defs (onTc (τ := τ) (main (F := F))) (s₀ m ρ) (fun r => Final m r.2.mem ∧ r.2.sem = fun _ => 0) :=
  Pipeline.θ_run_region_owing_glob_pf (fun p => (cfgs p).toPCfg) (fun p => (cfgs p).toPCfg_adm) (dats m ρ) () Gen.cellOf_inj (0 : Fin 1)
    Gen.winFacts0.to₀ ownSemFacts (Pipeline.PreFacts.none _) EP defs₀ 𝒱₀ m ρ main
    (hmain := fun _ => rfl)
    (hbody := body_obligation m ρ) (hne := fun w => by fin_cases w <;> exact Nat.succ_pos _) (harr := Gen.arr_whole0) (hstage := Gen.stage_whole0) (hshare := share_eq m ρ)
    (hdistinct := Gen.winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (Entails.of_eq (show BI.own (embR (initOf allCells allToks, (1 : Counters))) = (BI.own (ER (initOf allCells allToks)) : sProp 𝕄) from rfl)) $$ HX
      imod (fund_all m) $$ HX with HG
      imodintro
      isplitl [HP]; · iexact HP
      iexact HG)
    (hglob := glob m)
    (hA := fun _ _ => rfl) (hpf := fun _ k => k.elim0)
    (X := start m) (Y := fun c => iprop(unscopedSems0 c ∗ kv m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ (s.mem ((c : Thread nD τ).loc main_arg1) = m ((c : Thread nD τ).loc main_arg1) ∧ s.mem ((c : Thread nD τ).loc main_arg2) = m ((c : Thread nD τ).loc main_arg2)))
    (hY := fun c s' => by
      iintro ⟨⟨Hu, Hkv⟩, -, HSI⟩
      ihave H := (kv_read m c s') $$ [Hkv HSI]
      · isplitl [Hkv]; · iexact Hkv
        iexact HSI
      icases H with ⟨%hkv, HSI⟩
      imod (Pipeline.unscopedSems0_read (X := unscopedSems0 c) (c := c) fupd_intro s') $$ [Hu HSI] with ⟨%hu, HSI⟩
      · isplitl [Hu]; · iexact Hu
        iexact HSI
      imodintro
      isplitr
      · ipureintro; exact ⟨hu, hkv⟩
      iexact HSI)
    (hQ := fun s h hs => ⟨fun c => ⟨((h c).1 (1 : Fin 2)).trans (final_out m ρ c),
      ((h c).1 (0 : Fin 2)).trans ((dats m ρ 0 c).arrAt_in (0 : Fin 2) rfl _), (h c).2.2.2⟩, sem_eq_zero hs fun c => (h c).2.2.1⟩)

end Cert.KernelIdeal.Own

end
-- ==== Proof.Softmax.lean ====
module

public import Idealize.ShloMosaic.PureOps.Ideal
public import Idealize.ShloMosaic.PureOps.Ideal.Laws
public import Mathlib.Analysis.SpecialFunctions.Exp
public import Mathlib.Data.EReal.Operations
public import Mathlib.Algebra.BigOperators.Fin

/-!
# Attention over two halves of the keys

The scores and values of one query row against all the keys, in two halves. Each half has its greatest score, the sum
of its weights and the sum of its weighted values; joining the two halves gives the weighted sum over all the keys,
each weight divided by the sum of all. The scores are real numbers; the values are any extended reals.
-/

@[expose] public section

noncomputable section

namespace Cert.Softmax

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.zero : IsReal 0 := ⟨0, EReal.coe_zero.symm⟩
theorem IsReal.sum {ι : Type} {S : Finset ι} {f : ι → EReal} (h : ∀ k, IsReal (f k)) : IsReal (∑ k ∈ S, f k) :=
  Finset.sum_induction f IsReal (fun _ _ => IsReal.add) IsReal.zero fun k _ => h k

/-- A real number is an extended real below the greatest in absolute value. -/
theorem isReal_of_abs_lt {x : EReal} (h : max x (-x) < ⊤) : IsReal x := by
  induction x with
  | bot => exact absurd h (by simp)
  | top => exact absurd h (by simp)
  | coe r => exact ⟨r, rfl⟩

/-- The words of the bounds of the scores. -/
theorem ofBits_top : Ideal.ofBits .f32 0x7F800000#32 = ⊤ := by
  simp [Ideal.ofBits, Ideal.ieee]
theorem ofBits_bot : Ideal.ofBits .f32 0xFF800000#32 = ⊥ := by
  simp [Ideal.ofBits, Ideal.ieee]

/-- The word of the depth of the heads. -/
theorem ofBits_depth : Ideal.ofBits .f32 0x43000000#32 = ((128 : ℝ) : EReal) := by
  simp [Ideal.ofBits, Ideal.ieee, -EReal.coe_mul]
  norm_num

/-- The scale of the scores. -/
def scale : EReal := ((Real.sqrt 128)⁻¹ : ℝ)

theorem isReal_scale : IsReal scale := ⟨_, rfl⟩

/-- One over the root of 128, as the reference computes it. -/
theorem div_sqrt : Ideal.div 1 (Ideal.sqrt (Ideal.ofBits .f32 0x43000000#32)) = scale := by
  have h : Real.sqrt 128 ≠ 0 := (Real.sqrt_pos.2 (by norm_num)).ne'
  rw [ofBits_depth, Ideal.sqrt_coe, if_neg (by norm_num), Ideal.div_coe h, one_mul, one_div]
  rfl

section Family

variable {ι : Type} [Fintype ι]

/-- The greatest of a family of scores. -/
def top (s : ι → EReal) : EReal := Finset.univ.fold max ⊥ s
/-- The sum of the weights. -/
def mass (s : ι → EReal) : EReal := ∑ k, Ideal.exp (s k - top s)
/-- The sum of the weighted values. -/
def mix (s v : ι → EReal) : EReal := ∑ k, Ideal.exp (s k - top s) * v k

theorem top_eq_sup (s : ι → EReal) : top s = Finset.univ.sup s := rfl

theorem isReal_top [Nonempty ι] {s : ι → EReal} (h : ∀ k, IsReal (s k)) : IsReal (top s) := by
  obtain ⟨k, -, hk⟩ := Finset.exists_mem_eq_sup Finset.univ Finset.univ_nonempty s
  rw [top_eq_sup, hk]; exact h k

/-- A nonnegative real factor goes into a sum. -/
theorem coe_mul_sum (c : ℝ) (hc : 0 ≤ c) (f : ι → EReal) : (c : EReal) * ∑ k, f k = ∑ k, (c : EReal) * f k := by
  classical
  refine Finset.induction_on (Finset.univ : Finset ι) (by simp) fun a S ha ih => ?_
  rw [Finset.sum_insert ha, Finset.sum_insert ha, ← ih]
  exact EReal.left_distrib_of_nonneg_of_ne_top (EReal.coe_nonneg.mpr hc) (EReal.coe_ne_top c) _ _

theorem exp_coe (r : ℝ) : Ideal.exp (r : EReal) = ((Real.exp r : ℝ) : EReal) := rfl

/-- Moving the weights from one bound of the scores to another. -/
theorem exp_shift (m M r : ℝ) :
    Ideal.exp ((m : EReal) - (M : EReal)) * Ideal.exp ((r : EReal) - (m : EReal)) = Ideal.exp ((r : EReal) - (M : EReal)) := by
  rw [← EReal.coe_sub, ← EReal.coe_sub, ← EReal.coe_sub, exp_coe, exp_coe, exp_coe, ← EReal.coe_mul, ← Real.exp_add]
  congr 2; ring

theorem shift_mix {s : ι → EReal} (v : ι → EReal) (h : ∀ k, IsReal (s k)) (m M : ℝ) :
    Ideal.exp ((m : EReal) - (M : EReal)) * ∑ k, Ideal.exp (s k - (m : EReal)) * v k = ∑ k, Ideal.exp (s k - (M : EReal)) * v k := by
  have e : Ideal.exp ((m : EReal) - (M : EReal)) = ((Real.exp (m - M) : ℝ) : EReal) := by rw [← EReal.coe_sub, exp_coe]
  rw [e, coe_mul_sum _ (Real.exp_pos _).le, ← e]
  refine Finset.sum_congr rfl fun k _ => ?_
  obtain ⟨r, hr⟩ := h k
  rw [hr, ← mul_assoc, exp_shift]

theorem shift_mass {s : ι → EReal} (h : ∀ k, IsReal (s k)) (m M : ℝ) :
    Ideal.exp ((m : EReal) - (M : EReal)) * ∑ k, Ideal.exp (s k - (m : EReal)) = ∑ k, Ideal.exp (s k - (M : EReal)) := by
  simpa using shift_mix (fun _ => 1) h m M

/-- The sum of the weights is a positive real. -/
theorem mass_pos [Nonempty ι] {s : ι → EReal} (h : ∀ k, IsReal (s k)) (M : ℝ) :
    ∃ L : ℝ, 0 < L ∧ ∑ k, Ideal.exp (s k - (M : EReal)) = (L : EReal) := by
  choose r hr using h
  refine ⟨∑ k, Real.exp (r k - M), Finset.sum_pos (fun k _ => Real.exp_pos _) Finset.univ_nonempty, ?_⟩
  have e : ∀ k, Ideal.exp (s k - (M : EReal)) = ((Real.exp (r k - M) : ℝ) : EReal) := fun k => by
    rw [hr k, ← EReal.coe_sub, exp_coe]
  rw [Finset.sum_congr rfl fun k _ => e k]
  exact (map_sum (⟨⟨Real.toEReal, EReal.coe_zero⟩, EReal.coe_add⟩ : ℝ →+ EReal) _ _).symm

/-- A sum of weighted values divided by a positive real is the sum of the values times the divided weights. -/
theorem mix_div (w v : ι → EReal) (L : ℝ) (hL : 0 < L) :
    (∑ k, w k * v k) * ((1 / L : ℝ) : EReal) = ∑ k, v k * Ideal.div (w k) (L : EReal) := by
  rw [mul_comm, coe_mul_sum _ (by positivity)]
  refine Finset.sum_congr rfl fun k _ => ?_
  rw [Ideal.div_coe hL.ne', mul_comm (w k) (v k), ← mul_assoc, mul_comm _ (v k), mul_assoc, mul_comm (w k)]

end Family

/-- Two halves joined. -/
def join (m1 l1 m2 l2 o1 o2 : EReal) : EReal :=
  Ideal.div (Ideal.exp (m1 - max m1 m2) * o1 + Ideal.exp (m2 - max m1 m2) * o2)
    (Ideal.exp (m1 - max m1 m2) * l1 + Ideal.exp (m2 - max m1 m2) * l2)

theorem join_comm (m1 l1 m2 l2 o1 o2 : EReal) : join m1 l1 m2 l2 o1 o2 = join m2 l2 m1 l1 o2 o1 := by
  unfold join; rw [max_comm m1 m2, add_comm (_ * o1), add_comm (_ * l1)]

/-- The two halves joined, over the two halves. -/
theorem join_halves {ι : Type} [Fintype ι] [Nonempty ι] {s1 s2 : ι → EReal} (v1 v2 : ι → EReal) (h1 : ∀ k, IsReal (s1 k)) (h2 : ∀ k, IsReal (s2 k)) :
    join (top s1) (mass s1) (top s2) (mass s2) (mix s1 v1) (mix s2 v2)
      = ∑ k, v1 k * Ideal.div (Ideal.exp (s1 k - max (top s1) (top s2)))
            (∑ k, Ideal.exp (s1 k - max (top s1) (top s2)) + ∑ k, Ideal.exp (s2 k - max (top s1) (top s2)))
        + ∑ k, v2 k * Ideal.div (Ideal.exp (s2 k - max (top s1) (top s2)))
            (∑ k, Ideal.exp (s1 k - max (top s1) (top s2)) + ∑ k, Ideal.exp (s2 k - max (top s1) (top s2))) := by
  obtain ⟨m1, e1⟩ := isReal_top h1
  obtain ⟨m2, e2⟩ := isReal_top h2
  obtain ⟨M, eM⟩ : IsReal (max (top s1) (top s2)) := by
    rcases max_choice (top s1) (top s2) with e | e <;> rw [e]
    · exact ⟨m1, e1⟩
    · exact ⟨m2, e2⟩
  obtain ⟨L1, p1, q1⟩ := mass_pos h1 M
  obtain ⟨L2, p2, q2⟩ := mass_pos h2 M
  unfold join mass mix
  rw [eM, e1, e2, shift_mix _ h1, shift_mix _ h2, shift_mass h1, shift_mass h2, q1, q2, ← EReal.coe_add,
    Ideal.div_coe (add_pos p1 p2).ne', ← mix_div _ _ _ (add_pos p1 p2), ← mix_div _ _ _ (add_pos p1 p2)]
  exact EReal.right_distrib_of_nonneg_of_ne_top (EReal.coe_nonneg.mpr (by positivity)) (EReal.coe_ne_top _) _ _

/-! ## All the keys -/

/-- Key `k` of half `z`. -/
def key (z : Fin 2) (k : Fin 1024) : Fin 2048 := ⟨1024 * z.val + k.val, by omega⟩

theorem sum_keys (f : Fin 2048 → EReal) : ∑ j, f j = ∑ k, f (key 0 k) + ∑ k, f (key 1 k) := by
  refine (Fin.sum_univ_add (a := 1024) (b := 1024) f).trans ?_
  refine congrArg₂ (· + ·) (Finset.sum_congr rfl fun k _ => congrArg f (Fin.ext ?_)) (Finset.sum_congr rfl fun k _ => congrArg f (Fin.ext ?_))
  · show k.val = 1024 * 0 + k.val; omega
  · show 1024 + k.val = 1024 * 1 + k.val; omega

theorem top_keys (s : Fin 2048 → EReal) : top s = max (top fun k => s (key 0 k)) (top fun k => s (key 1 k)) := by
  simp only [top_eq_sup]
  refine le_antisymm (Finset.sup_le fun j _ => ?_) (max_le ?_ ?_)
  · by_cases h : j.val < 1024
    · have e : j = key 0 ⟨j.val, h⟩ := Fin.ext (by show j.val = 1024 * 0 + j.val; omega)
      refine le_max_of_le_left ?_
      conv_lhs => rw [e]
      exact Finset.le_sup (f := fun k => s (key 0 k)) (Finset.mem_univ _)
    · have hj := j.isLt
      have e : j = key 1 ⟨j.val - 1024, by omega⟩ := Fin.ext (by show j.val = 1024 * 1 + (j.val - 1024); omega)
      refine le_max_of_le_right ?_
      conv_lhs => rw [e]
      exact Finset.le_sup (f := fun k => s (key 1 k)) (Finset.mem_univ _)
  · exact Finset.sup_le fun k _ => Finset.le_sup (f := s) (Finset.mem_univ (key 0 k))
  · exact Finset.sup_le fun k _ => Finset.le_sup (f := s) (Finset.mem_univ (key 1 k))

/-- Attention over all the keys: each value times its divided weight. -/
def attend (s v : Fin 2048 → EReal) : EReal :=
  ∑ j, v j * Ideal.div (Ideal.exp (s j - top s)) (∑ j, Ideal.exp (s j - top s))

/-- Either half joined with the other is attention over all the keys. -/
theorem join_eq_attend (s v : Fin 2048 → EReal) (h : ∀ j, IsReal (s j)) (z w : Fin 2) (hzw : z ≠ w) :
    join (top fun k => s (key z k)) (mass fun k => s (key z k)) (top fun k => s (key w k)) (mass fun k => s (key w k))
      (mix (fun k => s (key z k)) fun k => v (key z k)) (mix (fun k => s (key w k)) fun k => v (key w k)) = attend s v := by
  have h01 : join (top fun k => s (key 0 k)) (mass fun k => s (key 0 k)) (top fun k => s (key 1 k)) (mass fun k => s (key 1 k))
      (mix (fun k => s (key 0 k)) fun k => v (key 0 k)) (mix (fun k => s (key 1 k)) fun k => v (key 1 k)) = attend s v := by
    rw [join_halves _ _ (fun k => h _) (fun k => h _), attend, sum_keys, top_keys, sum_keys]
  match z, w, hzw with
  | 0, 1, _ => exact h01
  | 1, 0, _ => rw [join_comm]; exact h01
  | 0, 0, e => exact absurd rfl e
  | 1, 1, e => exact absurd rfl e

end Cert.Softmax

end
-- ==== Proof.RefValue.lean ====
module

public import proofs.«01_k».proof.Proof.Softmax
public import proofs.«01_k».proof.Proof.Gen.ReferenceIdeal.Run
public import proofs.«01_k».proof.Proof.Gen.ReferenceIdeal.Read
public import Idealize.ShloMosaic.Lib.Pointwise

/-!
# The reference's result, element by element

An element of the reference's result is attention of one query row over all the keys.
-/

@[expose] public section

noncomputable section

namespace Cert.Softmax

open Idealize.ShloMosaic

abbrev SQ : Shape := ⟨4, ![8, 8, 16, 128]⟩
abbrev SK : Shape := ⟨4, ![8, 2048, 16, 128]⟩

/-- The score of query `(b, q)` against key `(b, j)` under head `h`. -/
def score (X : SQ.Idx → EReal) (K : SK.Idx → EReal) (b q : Fin 8) (h : Fin 16) (j : Fin 2048) : EReal :=
  (∑ d : Fin 128, X (ix4 b q h d) * K (ix4 b j h d)) * scale

theorem isReal_score {X : SQ.Idx → EReal} {K : SK.Idx → EReal} (hX : ∀ i, IsReal (X i)) (hK : ∀ i, IsReal (K i)) (b q : Fin 8) (h : Fin 16)
    (j : Fin 2048) : IsReal (score X K b q h j) :=
  (IsReal.sum fun _ => (hX _).mul (hK _)).mul isReal_scale

/-- What both programs compute. -/
def result (X : SQ.Idx → EReal) (K V : SK.Idx → EReal) : SQ.Idx → EReal := fun i =>
  attend (score X K (i 0) (i 1) (i 2)) fun j => V (ix4 (i 0) j (i 2) (i 3))

end Cert.Softmax

namespace Cert.ReferenceIdeal.Read

open Idealize.ShloMosaic Cert.ReferenceIdeal Cert.Softmax
open Cert.ReferenceIdeal.Facts₀ Cert.ReferenceIdeal.Facts

variable (X : SQ.Idx → EReal) (K V : SK.Idx → EReal)

theorem scores_apply (b : Fin 8) (h : Fin 16) (q : Fin 8) (j : Fin 2048) :
    val_main_v4 (F := Ideal) X K (ix4 b h q j) = score X K b q h j := by
  pointwise [val_main_v4, val_main_v3, val_main_v2, val_main_v1, val_main_v0, val_main_cst, val_main_cst_0, score, div_sqrt]

theorem bound_apply (b : Fin 8) (h : Fin 16) (q : Fin 8) :
    val_main_v5 (F := Ideal) X K (ix3 b h q) = top (score X K b q h) := by
  pointwise [val_main_v5, val_main_cst_1, top, scores_apply, ofBits_bot]

theorem weights_apply (b : Fin 8) (h : Fin 16) (q : Fin 8) (j : Fin 2048) :
    val_main_v9 (F := Ideal) X K (ix4 b h q j) = Ideal.exp (score X K b q h j - top (score X K b q h)) := by
  pointwise [val_main_v9, val_main_v8, val_main_v7, val_main_v6, scores_apply, bound_apply]

theorem sum_apply (b : Fin 8) (h : Fin 16) (q : Fin 8) :
    val_main_v10 (F := Ideal) X K (ix3 b h q) = ∑ j, Ideal.exp (score X K b q h j - top (score X K b q h)) := by
  pointwise [val_main_v10, val_main_cst_2, weights_apply]

theorem result_eq : val_main_v15 (F := Ideal) X K V = result X K V := by
  funext i
  rw [eq_ix4 i]
  pointwise [val_main_v15, val_main_v14, val_main_v13, val_main_v12, val_main_v11, weights_apply, sum_apply, result, attend]

end Cert.ReferenceIdeal.Read

end
-- ==== Proof.Value.lean ====
module

public import proofs.«01_k».proof.Proof.Launch
public import proofs.«01_k».proof.Proof.RefValue

/-!
# The kernel's result, element by element

What a round computes over the extended reals, which elements of the arrays its blocks are, and the finished output:
the two halves of the keys joined.
-/

@[expose] public section

noncomputable section

namespace Cert.KernelIdeal.Own

open Idealize.ShloMosaic
open Idealize.ShloMosaic.TcCoe
open Cert.KernelIdeal.Facts₀ Cert.KernelIdeal.Facts
open Cert.Softmax (SQ SK IsReal score isReal_score scale result top mass mix join join_eq_attend key ofBits_bot)

/-! ## A round over the extended reals -/

section Round

variable (q : FVec Ideal S1x8x1x128 .f32) (k v : FVec Ideal S1x1024x128 .f32)

/-- The named scale. -/
theorem named_scale : Named.named (F := Ideal) κ "inv_sqrt_d" (φ := .f32) 0x3DB504F3#32 = scale :=
  IdealRules.named_const.ideal_named_scalar _ _ _ _ rfl

theorem scores_apply (r : Fin 8) (j : Fin 1024) :
    scores (F := Ideal) q k (ix2 r j) = (∑ d : Fin 128, q (ix4 0 r 0 d) * k (ix3 0 j d)) * scale := by
  pointwise [scores, named_scale]

theorem rowMax_apply (r : Fin 8) : rowMax (F := Ideal) q k (ix2 r 0) = top fun j => scores (F := Ideal) q k (ix2 r j) := by
  pointwise [rowMax, top, ofBits_bot]

theorem weights_apply (r : Fin 8) (j : Fin 1024) :
    weights (F := Ideal) q k (ix2 r j) = Ideal.exp (scores (F := Ideal) q k (ix2 r j) - top fun j => scores (F := Ideal) q k (ix2 r j)) := by
  pointwise [weights, rowMax_apply]

theorem rowSum_apply (r : Fin 8) : rowSum (F := Ideal) q k (ix2 r 0) = mass fun j => scores (F := Ideal) q k (ix2 r j) := by
  pointwise [rowSum, mass, weights_apply]

theorem outBlk_apply (r : Fin 8) (d : Fin 128) :
    outBlk (F := Ideal) q k v (ix4 0 r 0 d) = mix (fun j => scores (F := Ideal) q k (ix2 r j)) fun j => v (ix3 0 j d) := by
  pointwise [outBlk, mixed, mix, weights_apply]

theorem statCol_apply (w : FVec Ideal S8x1 .f32) (r : Fin 8) : statCol (F := Ideal) w (ix4 0 0 r 0) = w (ix2 r 0) := by
  pointwise [statCol]

theorem combine_apply (m1 l1 m2 l2 : FVec Ideal S1x2x8x16 .f32) (o1 o2 : FVec Ideal S2x8x16x128 .f32) (b : Fin 2) (r : Fin 8) (h : Fin 16) (d : Fin 128) :
    combine (F := Ideal) m1 l1 m2 l2 o1 o2 (ix4 b r h d)
      = join (m1 (ix4 0 b r h)) (l1 (ix4 0 b r h)) (m2 (ix4 0 b r h)) (l2 (ix4 0 b r h)) (o1 (ix4 b r h d)) (o2 (ix4 b r h d)) := by
  pointwise [combine, join]

end Round

/-! ## A round's blocks -/

/-- A device's row `b`. -/
def row (c : Dev nD) (b : Fin 2) : Fin 8 := ⟨first c + b.val, by have := first_lt c; have := b.isLt; omega⟩
/-- Which half of the keys a device has. -/
def zc (c : Dev nD) : Fin 2 := ⟨c.val % 2, Nat.mod_lt _ (by decide)⟩

theorem row_zp (c : Dev nD) (b : Fin 2) : row (zp c) b = row c b := by revert b; revert c; decide +kernel
theorem zc_zp (c : Dev nD) : zc c ≠ zc (zp c) := by revert c; decide +kernel
theorem row_ownerOf (c : Dev nD) (r : Fin 8) : row (ownerOf c r) ⟨r.val % 2, Nat.mod_lt _ (by decide)⟩ = r := by revert r; revert c; decide +kernel

theorem rnd_div (b : Fin 2) (h : Fin 16) : (rnd b.val h).val / 16 = b.val := by revert h; revert b; decide +kernel
theorem rnd_mod (b : Fin 2) (h : Fin 16) : (rnd b.val h).val % 16 = h.val := by revert h; revert b; decide +kernel
theorem offR_rnd (c : Dev nD) (b : Fin 2) (h : Fin 16) : offR c (rnd b.val h).val = ![(row c b).val, 0, h.val, 0] := by
  unfold offR
  rw [rowOf_half c (rnd b.val h).isLt, rnd_div, rnd_mod]; rfl

/-- The half `z` of an array cut along its keys. -/
def half (K : SK.Idx → EReal) (z : Fin 2) : S8x1024x16x128.Idx → EReal := fun i => K (ix4 (i 0) (key z (i 1)) (i 2) (i 3))

theorem squeezed (j : Fin 1024) (d : Fin 128) (e : S1024x128.numel = S1x1024x128.numel) (e' : S1024x128.numel = S1x1024x1x128.numel) :
    Shape.reshapeEquiv e' ((Shape.reshapeEquiv e).symm (ix3 0 j d : S1x1024x128.Idx)) = (ix4 0 j 0 d : S1x1024x1x128.Idx) := by
  rw [Shape.reshapeEquiv_symm, Shape.reshapeEquiv_reshapeEquiv]
  refine Shape.reshapeEquiv_eq_of_vals _ _ _ _ _ (rowMajor_val4 _ 131072 128 128 rfl rfl rfl) (rowMajor_val3 _ 131072 128 rfl rfl) ?_
  simp [ix4, ix3]

section Blocks

variable (m : (ℓ : Loc nD τ sig) → Buf (Elt Ideal) ℓ) (c : Dev nD) (b : Fin 2) (h : Fin 16)

theorem qBlk_apply (r : Fin 8) (d : Fin 128) :
    qBlk m c (rnd b.val h) (ix4 0 r 0 d) = (XQ m c : SQ.Idx → EReal) (ix4 (row c b) r h d) := by
  refine congrArg (XQ m c : SQ.Idx → EReal) (funext fun a => Fin.ext ((Rect.emb_apply _ _ _).trans ?_))
  refine (congrArg (· + 1 * _) (congrFun (offR_rnd c b h) a)).trans ?_
  match a with
  | ⟨0, _⟩ => rfl
  | ⟨1, _⟩ => exact (Nat.zero_add _).trans (Nat.one_mul _)
  | ⟨2, _⟩ => rfl
  | ⟨3, _⟩ => exact (Nat.zero_add _).trans (Nat.one_mul _)

theorem srcRect_emb (j : Fin 1024) (d : Fin 128) :
    (Rect.unit (s := S8x1024x16x128) (offR c (rnd b.val h)) S1x1024x1x128.size (offK_inb c (rnd b.val h).isLt)).emb (ix4 0 j 0 d)
      = (ix4 (row c b) j h d : S8x1024x16x128.Idx) := by
  refine funext fun a => Fin.ext ((Rect.emb_apply _ _ _).trans ?_)
  refine (congrArg (· + 1 * _) (congrFun (offR_rnd c b h) a)).trans ?_
  match a with
  | ⟨0, _⟩ => rfl
  | ⟨1, _⟩ => exact (Nat.zero_add _).trans (Nat.one_mul _)
  | ⟨2, _⟩ => rfl
  | ⟨3, _⟩ => exact (Nat.zero_add _).trans (Nat.one_mul _)

theorem kBlk_apply (j : Fin 1024) (d : Fin 128) :
    kBlk m c (rnd b.val h) (ix3 0 j d) = (KA m c : S8x1024x16x128.Idx → EReal) (ix4 (row c b) j h d) := by
  rw [← srcRect_emb c b h j d, ← squeezed j d squeezes_S1x1024x128_S1024x128.numel_eq squeezes_S1x1024x1x128_S1024x128.numel_eq]
  rfl

theorem vBlk_apply (j : Fin 1024) (d : Fin 128) :
    vBlk m c (rnd b.val h) (ix3 0 j d) = (VA m c : S8x1024x16x128.Idx → EReal) (ix4 (row c b) j h d) := by
  rw [← srcRect_emb c b h j d, ← squeezed j d squeezes_S1x1024x128_S1024x128.numel_eq squeezes_S1x1024x1x128_S1024x128.numel_eq]
  rfl

theorem rows2_emb (r : Fin 8) (d : Fin 128) : (rows2 oM c).view.emb (ix4 b r h d) = (ix4 (row c b) r h d : SQ.Idx) := by
  refine funext fun a => Fin.ext ((Rect.emb_apply _ _ _).trans ?_)
  refine (congrArg (· + 1 * _) (congrFun (Gen.k0_off33_eq c) a)).trans ?_
  match a with
  | ⟨0, _⟩ => exact congrArg (first c + ·) (Nat.one_mul _)
  | ⟨1, _⟩ => exact (Nat.zero_add _).trans (Nat.one_mul _)
  | ⟨2, _⟩ => exact (Nat.zero_add _).trans (Nat.one_mul _)
  | ⟨3, _⟩ => exact (Nat.zero_add _).trans (Nat.one_mul _)

theorem ORow_apply (f : SQ.Idx → EReal) (r : Fin 8) (d : Fin 128) : ORow (F := Ideal) c f (ix4 b r h d) = f (ix4 (row c b) r h d) := by
  rw [← rows2_emb c b h r d]
  rfl

end Blocks

/-! ## The finished output -/

section Finished

variable (m : (ℓ : Loc nD τ sig) → Buf (Elt Ideal) ℓ) (X : SQ.Idx → EReal) (K V : SK.Idx → EReal)

theorem scores_round (hX : ∀ c, XQ m c = X) (hK : ∀ c, KA m c = half K (zc c)) (c : Dev nD) (b : Fin 2) (h : Fin 16) (r : Fin 8) :
    (fun j => scores (F := Ideal) (qBlk m c (rnd b.val h)) (kBlk m c (rnd b.val h)) (ix2 r j))
      = fun j => score X K (row c b) r h (key (zc c) j) := by
  funext j
  rw [scores_apply]
  refine congrArg (· * scale) (Finset.sum_congr rfl fun d _ => ?_)
  rw [qBlk_apply, kBlk_apply, hX, hK]; rfl

theorem stat_top (hX : ∀ c, XQ m c = X) (hK : ∀ c, KA m c = half K (zc c)) (c : Dev nD) (b : Fin 2) (h : Fin 16) (r : Fin 8) :
    stat (F := Ideal) (ML m c) 0 (ix4 0 b r h) = top fun j => score X K (row c b) r h (key (zc c) j) := by
  rw [← scores_round m X K hX hK, ← rowMax_apply, ← statCol_apply (rowMax (F := Ideal) _ _)]
  show (if (0 : Nat) = 0 then statCol (F := Ideal) (rowMax (qBlk m c (rnd b.val h)) (kBlk m c (rnd b.val h))) (ix4 0 0 r 0)
    else statCol (F := Ideal) (rowSum (qBlk m c (rnd b.val h)) (kBlk m c (rnd b.val h))) (ix4 0 0 r 0)) = _
  rw [if_pos rfl]

theorem stat_mass (hX : ∀ c, XQ m c = X) (hK : ∀ c, KA m c = half K (zc c)) (c : Dev nD) (b : Fin 2) (h : Fin 16) (r : Fin 8) :
    stat (F := Ideal) (ML m c) 1 (ix4 0 b r h) = mass fun j => score X K (row c b) r h (key (zc c) j) := by
  rw [← scores_round m X K hX hK, ← rowSum_apply, ← statCol_apply (rowSum (F := Ideal) _ _)]
  show (if (1 : Nat) = 0 then statCol (F := Ideal) (rowMax (qBlk m c (rnd b.val h)) (kBlk m c (rnd b.val h))) (ix4 0 0 r 0)
    else statCol (F := Ideal) (rowSum (qBlk m c (rnd b.val h)) (kBlk m c (rnd b.val h))) (ix4 0 0 r 0)) = _
  rw [if_neg Nat.one_ne_zero]

theorem ORow_mix (hX : ∀ c, XQ m c = X) (hK : ∀ c, KA m c = half K (zc c)) (hV : ∀ c, VA m c = half V (zc c)) (c : Dev nD) (b : Fin 2)
    (h : Fin 16) (r : Fin 8) (d : Fin 128) :
    ORow (F := Ideal) c (PO m c) (ix4 b r h d)
      = mix (fun j => score X K (row c b) r h (key (zc c) j)) fun j => V (ix4 (row c b) (key (zc c) j) h d) := by
  have e : (row c b).val - first c = b.val := Nat.add_sub_cancel_left _ _
  have e' : PO m c (ix4 (row c b) r h d : SQ.Idx) = outBlk (F := Ideal) (qBlk m c (rnd ((row c b).val - first c) h))
      (kBlk m c (rnd ((row c b).val - first c) h)) (vBlk m c (rnd ((row c b).val - first c) h)) (ix4 0 r 0 d) := rfl
  rw [ORow_apply, e', e, outBlk_apply, scores_round m X K hX hK]
  refine congrArg (mix _) (funext fun j => ?_)
  rw [vBlk_apply, hV]; rfl

theorem comb_apply (hX : ∀ c, XQ m c = X) (hK : ∀ c, KA m c = half K (zc c)) (hV : ∀ c, VA m c = half V (zc c))
    (rX : ∀ i, IsReal (X i)) (rK : ∀ i, IsReal (K i)) (c : Dev nD) (b : Fin 2) (h : Fin 16) (r : Fin 8) (d : Fin 128) :
    comb m c (ix4 b r h d) = result X K V (ix4 (row c b) r h d) := by
  unfold comb
  rw [combine_apply, stat_top m X K hX hK, stat_top m X K hX hK, stat_mass m X K hX hK, stat_mass m X K hX hK, ORow_mix m X K V hX hK hV,
    ORow_mix m X K V hX hK hV, row_zp]
  exact join_eq_attend (score X K (row c b) r h) (fun j => V (ix4 (row c b) j h d)) (isReal_score rX rK _ _ _) (zc c) (zc (zp c)) (zc_zp c)

/-- Every device's finished output is the reference's result. -/
theorem FIN_eq (hX : ∀ c, XQ m c = X) (hK : ∀ c, KA m c = half K (zc c)) (hV : ∀ c, VA m c = half V (zc c))
    (rX : ∀ i, IsReal (X i)) (rK : ∀ i, IsReal (K i)) (c : Dev nD) : FIN m c = result X K V := by
  funext (i : SQ.Idx)
  refine (comb_apply m X K V hX hK hV rX rK (ownerOf c (i 0)) ⟨(i 0).val % 2, Nat.mod_lt _ (by decide)⟩ (i 2) (i 1) (i 3)).trans ?_
  exact congrArg (result X K V) ((congrArg (fun r => (ix4 r (i 1) (i 2) (i 3) : SQ.Idx)) (row_ownerOf c (i 0))).trans (eq_ix4 i).symm)

end Finished

end Cert.KernelIdeal.Own

end
-- ==== Proof.Inputs.lean ====
module

public import proofs.«01_k».proof.Defs
public import proofs.«01_k».proof.Proof.Value
public import Idealize.ShloMosaic.Lib.ReduceAll
public import Idealize.ShloMosaic.Lib.Layout

/-!
# What the claim says of the arguments

The precondition read back as finite queries and keys, and the keys' and values' blocks as halves of the whole arrays.
-/

@[expose] public section

noncomputable section

namespace Cert.KernelIdeal.Own

open Idealize.ShloMosaic
open Idealize.ShloMosaic.TcCoe
open Cert.Softmax (SQ SK IsReal isReal_of_abs_lt ofBits_top key)

theorem facts_pre_kernel : Cert.Pre_finite_scores_KernelIdeal.Facts := ⟨by decide, by decide, by decide, by decide, by decide⟩
theorem facts_pre_reference : Cert.Pre_finite_scores_ReferenceIdeal.Facts := ⟨by decide, by decide, by decide, by decide, by decide⟩

/-- An element whose comparison with infinity came out true is a real number. -/
theorem isReal_of_cmp {x : EReal} (h : Ideal.cmp .olt (max x (-x)) (Ideal.ofBits .f32 0x7F800000#32) = 1#1) : IsReal x := by
  refine isReal_of_abs_lt ?_
  by_contra hn
  rw [ofBits_top] at h
  have e : Ideal.cmp .olt (max x (-x)) ⊤ = BitVec.ofBool false := congrArg BitVec.ofBool (decide_eq_false hn)
  exact absurd (e.symm.trans h) (by decide)

instance : Subsingleton (Shape.Idx Cert.Pre_finite_scores_KernelIdeal.S_) := ⟨fun a b => funext fun i => i.elim0⟩

theorem finite_of_pre [Cert.Pre_finite_scores_KernelIdeal.Facts] (q : SQ.Idx → EReal) (k v : S8x1024x16x128.Idx → EReal)
    (e : Cert.Pre_finite_scores_KernelIdeal.fn (F := Ideal) q k v = fun _ => 1#1) : (∀ i, IsReal (q i)) ∧ ∀ i, IsReal (k i) := by
  have e0 := congrFun e (fun a => a.elim0)
  dsimp only [Cert.Pre_finite_scores_KernelIdeal.fn] at e0
  obtain ⟨h1, h2⟩ := IntOp.andi_eq_one.1 e0
  exact ⟨fun i => isReal_of_cmp (Host.reduce_andi_all _ _ _ _ _ h1 i), fun i => isReal_of_cmp (Host.reduce_andi_all _ _ _ _ _ h2 i)⟩

theorem meshLin_nil (c : Dev nD) : Layout.meshLin [2, 2, 2] c.val [] = 0 := by revert c; decide +kernel
theorem meshLin_last (c : Dev nD) : Layout.meshLin [2, 2, 2] c.val [2] = c.val % 2 := by revert c; decide +kernel

/-- A device's block of an array cut along its keys is the half it has. -/
theorem block_eq (K : SK.Idx → EReal) (c : Dev nD) :
    Layout.blockN ⟨4, ![8, 1024, 16, 128]⟩ ⟨4, ![8, 2048, 16, 128]⟩ (Layout.meshBlock [2, 2, 2] ![[], [2], [], []] c) K = half K (zc c) := by
  funext i
  rw [Layout.blockN_apply]
  refine congrArg K (funext fun a => Fin.ext ((Layout.TilesN.idx_val _ _ _ _).trans ?_))
  match a with
  | ⟨0, _⟩ =>
    show Layout.meshLin [2, 2, 2] c.val [] * 8 + (i 0).val = (i 0).val
    rw [meshLin_nil, Nat.zero_mul, Nat.zero_add]
  | ⟨1, _⟩ =>
    show Layout.meshLin [2, 2, 2] c.val [2] * 1024 + (i 1).val = 1024 * (c.val % 2) + (i 1).val
    rw [meshLin_last, Nat.mul_comm]
  | ⟨2, _⟩ =>
    show Layout.meshLin [2, 2, 2] c.val [] * 16 + (i 2).val = (i 2).val
    rw [meshLin_nil, Nat.zero_mul, Nat.zero_add]
  | ⟨3, _⟩ =>
    show Layout.meshLin [2, 2, 2] c.val [] * 128 + (i 3).val = (i 3).val
    rw [meshLin_nil, Nat.zero_mul, Nat.zero_add]

/-- An array whose halves are finite is finite. -/
theorem isReal_of_halves (K : SK.Idx → EReal) (h : ∀ (c : Dev nD) i, IsReal (half K (zc c) i)) (i : SK.Idx) : IsReal (K i) := by
  have hi : (i 1).val < 2048 := (i 1).isLt
  have hz : (i 1).val / 1024 < 2 := by omega
  have e : half K (zc ⟨(i 1).val / 1024, by show _ < 8; omega⟩) (ix4 (i 0) ⟨(i 1).val % 1024, Nat.mod_lt _ (by decide)⟩ (i 2) (i 3)) = K i := by
    refine congrArg K (funext fun a => Fin.ext ?_)
    match a with
    | ⟨0, _⟩ => rfl
    | ⟨1, _⟩ =>
      show 1024 * ((i 1).val / 1024 % 2) + (i 1).val % 1024 = (i 1).val
      omega
    | ⟨2, _⟩ => rfl
    | ⟨3, _⟩ => rfl
  exact e ▸ h _ _

end Cert.KernelIdeal.Own

end
-- ==== Proof.Same.lean ====
module

public import proofs.«01_k».proof.Defs
public import proofs.«01_k».proof.Proof.Gen.Kernel
public import proofs.«01_k».proof.Proof.Gen.KernelIdeal

/-!
# The kernel at words has the idealized kernel's text

The idealized kernel differs from the kernel in the name that its scale has. With the name read as the scale's word, its
body table at machine words is the kernel's.
-/

@[expose] public section

noncomputable section

namespace Cert.Same

open Idealize.ShloMosaic Idealize.SL.Sem

attribute [local instance] Cert.Kernel.Gen.facts Cert.KernelIdeal.Gen.facts

/-- A named constant read as its word. -/
@[reducible] def words : Named Bits where
  named _ _ {φ} bits := FloatOps.ofBits φ bits

attribute [local instance] words

theorem body_eq : Cert.Kernel.cc0_body (F := Bits) = Cert.KernelIdeal.cc0_body (F := Bits) := rfl

theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

theorem defs_eq : Cert.Kernel.defs (F := Bits) = Cert.KernelIdeal.defs (F := Bits) := by
  unfold Cert.Kernel.defs Cert.KernelIdeal.defs
  rw [defs₀_eq]
  rfl

theorem main_eq : Cert.Kernel.main (F := Bits) = Cert.KernelIdeal.main (F := Bits) := rfl

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Inputs
public import proofs.«01_k».proof.Proof.Same
public import Idealize.ShloMosaic.Adequacy
public import Idealize.ShloMosaic.Init

@[expose] public section

noncomputable section

namespace Cert.Proof

open Idealize.ShloMosaic Idealize.SL.Sem
open Cert.KernelIdeal.Own (Final run_main half zc FIN_eq XQ_eq block_eq finite_of_pre isReal_of_halves)

attribute [local instance] Cert.Kernel.Gen.facts Cert.KernelIdeal.Gen.facts Cert.ReferenceIdeal.Gen.facts
  Cert.KernelIdeal.Own.facts_pre_kernel Cert.KernelIdeal.Own.facts_pre_reference Cert.Same.words

theorem kernel : Cert.quiescent_Kernel := fun m g _ => by
  rw [Cert.Same.defs_eq, Cert.Same.main_eq]
  exact (θ_run (Cert.KernelIdeal.defs (F := Bits)) _ _).mono (fun _ h => ⟨fun c => (h.1 c).2, h.2⟩) (run_main (F := Bits) m g)

theorem kernelIdeal : Cert.quiescent_KernelIdeal := fun m g _ =>
  (θ_run (Cert.KernelIdeal.defs (F := Ideal)) _ _).mono (fun _ h => ⟨fun c => (h.1 c).2, h.2⟩) (run_main (F := Ideal) m g)

theorem kernelIdeal_pre : Cert.quiescent_KernelIdeal_pre_finite_scores_KernelIdeal := fun m g _ => kernelIdeal m g trivial

theorem referenceIdeal : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

theorem referenceIdeal_pre : Cert.quiescent_ReferenceIdeal_pre_finite_scores_ReferenceIdeal := fun m g _ => referenceIdeal m g trivial

/-- The scale's name stands for one over the root of 128. -/
theorem preserves : Cert.preserves_Kernel_KernelIdeal :=
  IdealRules.named_const.statement Cert.KernelIdeal.κ "inv_sqrt_d" .f32 0x3DB504F3#32 _ rfl

/-- The kernel over the extended reals computes the reference's attention. -/
theorem algebraic : Cert.algebraic_KernelIdeal_ReferenceIdeal_pre_finite_scores_KernelIdeal := by
  intro m g m' g' hp h
  let r0 : Thread Cert.ReferenceIdeal.nD Cert.ReferenceIdeal.τ := (0 : Dev Cert.ReferenceIdeal.nD).tc
  let X : Cert.Softmax.SQ.Idx → EReal := m' (r0.loc Cert.ReferenceIdeal.main_arg0)
  let K : Cert.Softmax.SK.Idx → EReal := m' (r0.loc Cert.ReferenceIdeal.main_arg1)
  let V : Cert.Softmax.SK.Idx → EReal := m' (r0.loc Cert.ReferenceIdeal.main_arg2)
  have hX : ∀ c, Cert.KernelIdeal.Own.XQ m c = X := fun c => (XQ_eq m c).trans (h c).1
  have hK : ∀ c, Cert.KernelIdeal.Own.KA m c = half K (zc c) := fun c => (h c).2.1.trans (block_eq K c)
  have hV : ∀ c, Cert.KernelIdeal.Own.VA m c = half V (zc c) := fun c => (h c).2.2.trans (block_eq V c)
  have hf := fun c => finite_of_pre _ _ _ (hp c)
  have hX0 : (m (((0 : Dev Cert.KernelIdeal.nD).tc : Thread Cert.KernelIdeal.nD Cert.KernelIdeal.τ).loc Cert.KernelIdeal.main_arg0) : Cert.Softmax.SQ.Idx → EReal) = X := (h 0).1
  have rX : ∀ i, Cert.Softmax.IsReal (X i) := fun i => (congrFun (hX0 : _ = X) i) ▸ (hf 0).1 i
  have rK : ∀ i, Cert.Softmax.IsReal (K i) := isReal_of_halves K fun c i => (congrFun (hK c) i) ▸ (hf c).2 i
  refine ⟨Cert.Softmax.result X K V, ?_, ?_⟩
  · exact (θ_run (Cert.KernelIdeal.defs (F := Ideal)) _ _).mono
      (fun _ hr c => ⟨(hr.1 c).1.trans (FIN_eq m X K V hX hK hV rX rK c), (hr.1 c).2⟩) (run_main (F := Ideal) m g)
  · exact (θ_run (Cert.ReferenceIdeal.defs (F := Ideal)) _ _).mono
      (fun _ hr => ⟨((hr 0).1.trans (Cert.ReferenceIdeal.Read.val_main_v15_eq _ _ _)).trans (Cert.ReferenceIdeal.Read.result_eq X K V), (hr 0).2⟩)
      (Cert.ReferenceIdeal.Value.run (F := Ideal) m' g')

theorem claim : Cert.Claim :=
  ⟨Cert.Kernel.Gen.facts, Cert.KernelIdeal.Gen.facts, Cert.ReferenceIdeal.Gen.facts, Cert.KernelIdeal.Own.facts_pre_kernel,
    Cert.KernelIdeal.Own.facts_pre_reference, kernel, kernelIdeal, kernelIdeal_pre, referenceIdeal, referenceIdeal_pre, preserves, algebraic⟩

end Cert.Proof

end
